-- ==== Defs.lean ====
def Pre_Kernel [hPre_tokens_in_table : Cert.Pre_tokens_in_table.Facts] (m : (ℓ : Loc Cert.Kernel.nD Cert.Kernel.τ Cert.Kernel.sig) → Buf (Elt Bits) ℓ) : Prop :=
  ∀ c : Dev Cert.Kernel.nD,
    (Cert.Pre_tokens_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_tokens_in_table : Cert.Pre_tokens_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_KernelIdeal_tokens_and_finite_weights [hPre_tokens_and_finite_weights : Cert.Pre_tokens_and_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_and_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_and_finite_weights [hPre_tokens_and_finite_weights : Cert.Pre_tokens_and_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_and_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_tokens_in_table : Cert.Pre_tokens_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_tokens_in_table : Cert.Pre_tokens_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tokens_and_finite_weights [hKernelIdeal : Cert.KernelIdeal.Facts] [hPre_tokens_and_finite_weights : Cert.Pre_tokens_and_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_and_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tokens_and_finite_weights [hReferenceIdeal : Cert.ReferenceIdeal.Facts] [hPre_tokens_and_finite_weights : Cert.Pre_tokens_and_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_and_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tokens_and_finite_weights [hKernelIdeal : Cert.KernelIdeal.Facts] [hReferenceIdeal : Cert.ReferenceIdeal.Facts] [hPre_tokens_and_finite_weights : Cert.Pre_tokens_and_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_and_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8_1)) (v1 : (c : Dev Cert.KernelIdeal.nD) → Buf (Elt Ideal) ((c.tc : Thread Cert.KernelIdeal.nD Cert.KernelIdeal.τ).loc Cert.KernelIdeal.main_v11)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_1) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tokens_in_table : Cert.Pre_tokens_in_table.Facts) (hPre_tokens_and_finite_weights : Cert.Pre_tokens_and_finite_weights.Facts),
    quiescent_Kernel (hKernel := hKernel) (hPre_tokens_in_table := hPre_tokens_in_table)
    ∧ quiescent_KernelIdeal (hKernelIdeal := hKernelIdeal) (hPre_tokens_in_table := hPre_tokens_in_table)
    ∧ quiescent_KernelIdeal_pre_tokens_and_finite_weights (hKernelIdeal := hKernelIdeal) (hPre_tokens_and_finite_weights := hPre_tokens_and_finite_weights)
    ∧ quiescent_ReferenceIdeal (hReferenceIdeal := hReferenceIdeal)
    ∧ quiescent_ReferenceIdeal_pre_tokens_and_finite_weights (hReferenceIdeal := hReferenceIdeal) (hPre_tokens_and_finite_weights := hPre_tokens_and_finite_weights)
    ∧ preserves_Kernel_KernelIdeal
    ∧ algebraic_KernelIdeal_ReferenceIdeal_pre_tokens_and_finite_weights (hKernelIdeal := hKernelIdeal) (hReferenceIdeal := hReferenceIdeal) (hPre_tokens_and_finite_weights := hPre_tokens_and_finite_weights)
-- ==== Pre_tokens_and_finite_weights.lean ====
abbrev S8x2500 : Shape := ⟨2, ![8, 2500]⟩
abbrev S8x8000 : Shape := ⟨2, ![8, 8000]⟩
abbrev S50002x100 : Shape := ⟨2, ![50002, 100]⟩
abbrev S50x100x9 : Shape := ⟨3, ![50, 100, 9]⟩
abbrev S50 : Shape := ⟨1, ![50]⟩
abbrev S8000x50 : Shape := ⟨2, ![8000, 50]⟩
abbrev S8000 : Shape := ⟨1, ![8000]⟩
abbrev S_ : Shape := ⟨0, ![]⟩

class Facts : Prop where
  bcast_S_S8x2500 : S_.BroadcastsInDim S8x2500 (![] : Fin 0 → Fin S8x2500.rank)
  reducesTo_S8x2500_S_d0_1 : S8x2500.ReducesTo [0, 1] S_
  h_S_ : 0 < S_.numel
  bcast_S_S8000x50 : S_.BroadcastsInDim S8000x50 (![] : Fin 0 → Fin S8000x50.rank)
  reducesTo_S8000x50_S_d0_1 : S8000x50.ReducesTo [0, 1] S_

variable [Facts]

def fn {F : FTy → Type} [FloatOps F] (main_arg0 : IVec S8x2500 32) (main_arg1 : FVec F S8x8000 .f32) (main_arg2 : FVec F S50002x100 .f32) (main_arg3 : FVec F S50x100x9 .f32) (main_arg4 : FVec F S50 .f32) (main_arg5 : FVec F S8000x50 .f32) (main_arg6 : FVec F S8000x50 .f32) (main_arg7 : FVec F S8000 .f32) : IVec S_ 1 :=
  let main_c : IVec S_ 32 := constantI S_ 32 0#32
  let main_v0 : IVec S8x2500 32 := broadcastInDim S8x2500 ![] bcast_S_S8x2500 main_c
  let main_v1 : IVec S8x2500 1 := cmpi .sge main_arg0 main_v0
  let main_c_0 : IVec S_ 32 := constantI S_ 32 50002#32
  let main_v2 : IVec S8x2500 32 := broadcastInDim S8x2500 ![] bcast_S_S8x2500 main_c_0
  let main_v3 : IVec S8x2500 1 := cmpi .slt main_arg0 main_v2
  let main_v4 : IVec S8x2500 1 := andi main_v1 main_v3
  let main_c_1 : IVec S_ 1 := constantI S_ 1 1#1
  let main_v5 : IVec S_ 1 := (fun x v => Host.reduce IntOp.andi x v reducesTo_S8x2500_S_d0_1 h_S_) main_v4 main_c_1
  let main_v6 : FVec F S8000x50 .f32 := Host.absf main_arg5
  let main_cst : FVec F S_ .f32 := constant S_ .f32 0x7F800000#32
  let main_v7 : FVec F S8000x50 .f32 := broadcastInDim S8000x50 ![] bcast_S_S8000x50 main_cst
  let main_v8 : IVec S8000x50 1 := cmpf .olt main_v6 main_v7
  let main_c_2 : IVec S_ 1 := constantI S_ 1 1#1
  let main_v9 : IVec S_ 1 := (fun x v => Host.reduce IntOp.andi x v reducesTo_S8000x50_S_d0_1 h_S_) main_v8 main_c_2
  let main_v10 : IVec S_ 1 := andi main_v5 main_v9
  let main_v11 : FVec F S8000x50 .f32 := Host.absf main_arg6
  let main_cst_3 : FVec F S_ .f32 := constant S_ .f32 0x7F800000#32
  let main_v12 : FVec F S8000x50 .f32 := broadcastInDim S8000x50 ![] bcast_S_S8000x50 main_cst_3
  let main_v13 : IVec S8000x50 1 := cmpf .olt main_v11 main_v12
  let main_c_4 : IVec S_ 1 := constantI S_ 1 1#1
  let main_v14 : IVec S_ 1 := (fun x v => Host.reduce IntOp.andi x v reducesTo_S8000x50_S_d0_1 h_S_) main_v13 main_c_4
  let main_v15 : IVec S_ 1 := andi main_v10 main_v14
  main_v15
-- ==== Pre_tokens_in_table.lean ====
abbrev S8x2500 : Shape := ⟨2, ![8, 2500]⟩
abbrev S8x8000 : Shape := ⟨2, ![8, 8000]⟩
abbrev S50002x100 : Shape := ⟨2, ![50002, 100]⟩
abbrev S50x100x9 : Shape := ⟨3, ![50, 100, 9]⟩
abbrev S50 : Shape := ⟨1, ![50]⟩
abbrev S8000x50 : Shape := ⟨2, ![8000, 50]⟩
abbrev S8000 : Shape := ⟨1, ![8000]⟩
abbrev S_ : Shape := ⟨0, ![]⟩

class Facts : Prop where
  bcast_S_S8x2500 : S_.BroadcastsInDim S8x2500 (![] : Fin 0 → Fin S8x2500.rank)

variable [Facts]

def fn {F : FTy → Type} [FloatOps F] (main_arg0 : IVec S8x2500 32) (main_arg1 : FVec F S8x8000 .f32) (main_arg2 : FVec F S50002x100 .f32) (main_arg3 : FVec F S50x100x9 .f32) (main_arg4 : FVec F S50 .f32) (main_arg5 : FVec F S8000x50 .f32) (main_arg6 : FVec F S8000x50 .f32) (main_arg7 : FVec F S8000 .f32) : IVec S8x2500 1 :=
  let main_c : IVec S_ 32 := constantI S_ 32 0#32
  let main_v0 : IVec S8x2500 32 := broadcastInDim S8x2500 ![] bcast_S_S8x2500 main_c
  let main_v1 : IVec S8x2500 1 := cmpi .sge main_arg0 main_v0
  let main_c_0 : IVec S_ 32 := constantI S_ 32 50002#32
  let main_v2 : IVec S8x2500 32 := broadcastInDim S8x2500 ![] bcast_S_S8x2500 main_c_0
  let main_v3 : IVec S8x2500 1 := cmpi .slt main_arg0 main_v2
  let main_v4 : IVec S8x2500 1 := andi main_v1 main_v3
  main_v4
-- ==== Kernel.lean ====
abbrev S8x2500 : Shape := ⟨2, ![8, 2500]⟩
abbrev S8x8000 : Shape := ⟨2, ![8, 8000]⟩
abbrev S50002x100 : Shape := ⟨2, ![50002, 100]⟩
abbrev S50x100x9 : Shape := ⟨3, ![50, 100, 9]⟩
abbrev S50 : Shape := ⟨1, ![50]⟩
abbrev S8000x50 : Shape := ⟨2, ![8000, 50]⟩
abbrev S8000 : Shape := ⟨1, ![8000]⟩
abbrev S9x100x50 : Shape := ⟨3, ![9, 100, 50]⟩
abbrev S8x1x2500 : Shape := ⟨3, ![8, 1, 2500]⟩
abbrev S50002x1x100 : Shape := ⟨3, ![50002, 1, 100]⟩
abbrev S1x50 : Shape := ⟨2, ![1, 50]⟩
abbrev S8x2500x50 : Shape := ⟨3, ![8, 2500, 50]⟩
abbrev S1x1x2500 : Shape := ⟨3, ![1, 1, 2500]⟩
abbrev S1x2500x50 : Shape := ⟨3, ![1, 2500, 50]⟩
abbrev S2508x1x100 : Shape := ⟨3, ![2508, 1, 100]⟩
abbrev S4x100 : Shape := ⟨2, ![4, 100]⟩
abbrev S4x1x100 : Shape := ⟨3, ![4, 1, 100]⟩
abbrev S1x1x1 : Shape := ⟨3, ![1, 1, 1]⟩
abbrev S1x1x100 : Shape := ⟨3, ![1, 1, 100]⟩
abbrev S100 : Shape := ⟨1, ![100]⟩
abbrev S2508x100 : Shape := ⟨2, ![2508, 100]⟩
abbrev S2500x50 : Shape := ⟨2, ![2500, 50]⟩
abbrev S2500x100 : Shape := ⟨2, ![2500, 100]⟩
abbrev S1x100x50 : Shape := ⟨3, ![1, 100, 50]⟩
abbrev S100x50 : Shape := ⟨2, ![100, 50]⟩
abbrev S1x8000 : Shape := ⟨2, ![1, 8000]⟩
abbrev S2500x8x8000 : Shape := ⟨3, ![2500, 8, 8000]⟩
abbrev S63x1x1 : Shape := ⟨3, ![63, 1, 1]⟩
abbrev S128x50 : Shape := ⟨2, ![128, 50]⟩
abbrev S1x128 : Shape := ⟨2, ![1, 128]⟩
abbrev S8x128 : Shape := ⟨2, ![8, 128]⟩
abbrev S2500x8x128 : Shape := ⟨3, ![2500, 8, 128]⟩
abbrev S1x1 : Shape := ⟨2, ![1, 1]⟩
abbrev S2500x128 : Shape := ⟨2, ![2500, 128]⟩
abbrev S128 : Shape := ⟨1, ![128]⟩
abbrev S2500x1x128 : Shape := ⟨3, ![2500, 1, 128]⟩
abbrev S1 : Shape := ⟨1, ![1]⟩
abbrev S8x8000x2500 : Shape := ⟨3, ![8, 8000, 2500]⟩
abbrev S_ : Shape := ⟨0, ![]⟩

abbrev nBuf : Space → Nat
  | .hbm => 24
  | .vmem => 21
  | .smem => 2
  | _ => 0

abbrev bufTy : (tb : Table) → Fin (tcTables nBuf tb) → BufTy
  | .hbm, ⟨0, _⟩ => ⟨S8x2500, .i32⟩
  | .hbm, ⟨1, _⟩ => ⟨S8x8000, .f32⟩
  | .hbm, ⟨2, _⟩ => ⟨S50002x100, .f32⟩
  | .hbm, ⟨3, _⟩ => ⟨S50x100x9, .f32⟩
  | .hbm, ⟨4, _⟩ => ⟨S50, .f32⟩
  | .hbm, ⟨5, _⟩ => ⟨S8000x50, .f32⟩
  | .hbm, ⟨6, _⟩ => ⟨S8000x50, .f32⟩
  | .hbm, ⟨7, _⟩ => ⟨S8000, .f32⟩
  | .hbm, ⟨8, _⟩ => ⟨S9x100x50, .f32⟩
  | .hbm, ⟨9, _⟩ => ⟨S8x1x2500, .i32⟩
  | .hbm, ⟨10, _⟩ => ⟨S50002x1x100, .f32⟩
  | .hbm, ⟨11, _⟩ => ⟨S1x50, .f32⟩
  | .hbm, ⟨12, _⟩ => ⟨S8x2500x50, .bf16⟩
  | .hbm, ⟨13, _⟩ => ⟨S8000x50, .bf16⟩
  | .hbm, ⟨14, _⟩ => ⟨S8000x50, .bf16⟩
  | .hbm, ⟨15, _⟩ => ⟨S1x8000, .f32⟩
  | .hbm, ⟨16, _⟩ => ⟨S2500x8x8000, .f32⟩
  | .hbm, ⟨17, _⟩ => ⟨S8x8000, .f32⟩
  | .hbm, ⟨18, _⟩ => ⟨S63x1x1, .f32⟩
  | .hbm, ⟨19, _⟩ => ⟨S8x8000x2500, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .local _ .vmem, ⟨0, _⟩ => ⟨S50002x1x100, .f32⟩
  | .local _ .vmem, ⟨1, _⟩ => ⟨S9x100x50, .f32⟩
  | .local _ .vmem, ⟨2, _⟩ => ⟨S1x50, .f32⟩
  | .local _ .vmem, ⟨3, _⟩ => ⟨S1x2500x50, .bf16⟩
  | .local _ .vmem, ⟨4, _⟩ => ⟨S1x2500x50, .bf16⟩
  | .local _ .vmem, ⟨5, _⟩ => ⟨S2508x1x100, .f32⟩
  | .local _ .vmem, ⟨6, _⟩ => ⟨S8x2500x50, .bf16⟩
  | .local _ .vmem, ⟨7, _⟩ => ⟨S128x50, .bf16⟩
  | .local _ .vmem, ⟨8, _⟩ => ⟨S128x50, .bf16⟩
  | .local _ .vmem, ⟨9, _⟩ => ⟨S128x50, .bf16⟩
  | .local _ .vmem, ⟨10, _⟩ => ⟨S128x50, .bf16⟩
  | .local _ .vmem, ⟨11, _⟩ => ⟨S1x128, .f32⟩
  | .local _ .vmem, ⟨12, _⟩ => ⟨S1x128, .f32⟩
  | .local _ .vmem, ⟨13, _⟩ => ⟨S8x128, .f32⟩
  | .local _ .vmem, ⟨14, _⟩ => ⟨S8x128, .f32⟩
  | .local _ .vmem, ⟨15, _⟩ => ⟨S2500x8x128, .f32⟩
  | .local _ .vmem, ⟨16, _⟩ => ⟨S2500x8x128, .f32⟩
  | .local _ .vmem, ⟨17, _⟩ => ⟨S8x128, .f32⟩
  | .local _ .vmem, ⟨18, _⟩ => ⟨S8x128, .f32⟩
  | .local _ .vmem, ⟨19, _⟩ => ⟨S1x1x1, .f32⟩
  | .local _ .vmem, ⟨20, _⟩ => ⟨S1x1x1, .f32⟩
  | .local _ .smem, ⟨0, _⟩ => ⟨S1x1x2500, .i32⟩
  | .local _ .smem, ⟨1, _⟩ => ⟨S1x1x2500, .i32⟩
  | _, _ => ⟨S8x2500, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc1_stg7_1 : Ref sig .tc := ⟨.vmem, 20, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem6_1 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c625_i32 : BitVec 32 := 625#32
  let v8 : BitVec 32 := Scalar.addi c0_i32 c625_i32
  let c1_i32 : BitVec 32 := 1#32
  ⟨c0_i32, v8, c1_i32⟩
def k0_off1 (k0_t1 : Fin k0_t1_loop.trips) : Fin 3 → Nat :=
  let c0_44 : Index := 0#32
  let c0_45 : Index := 0#32
  let c0_i32 : BitVec 32 := 0#32
  let c1_i32 : BitVec 32 := 1#32
  let arg7 : BitVec 32 := Scf.iv c0_i32 c1_i32 k0_t1
  let c4_i32 : BitVec 32 := 4#32
  let v67 : BitVec 32 := Scalar.muli arg7 c4_i32
  let c0_i32_43 : BitVec 32 := 0#32
  let v68 : BitVec 32 := Scalar.addi v67 c0_i32_43
  let v69 : Index := Scalar.indexCast v68
  ![0, 0, v69.toNat]
def k0_off2 (v70 : BitVec 32) : Fin 3 → Nat :=
  let v71 : Index := Scalar.indexCast v70
  let c0_46 : Index := 0#32
  let c0_47 : Index := 0#32
  ![v71.toNat, 0, 0]

def k0_chk1 (v70 : BitVec 32) : Prop :=
  (∀ a, (k0_off2 v70) a + S1x1x100.size a ≤ S50002x1x100.size a)
theorem k0_off2_inb : ∀ (v70 : BitVec 32) (k0_hw1 : k0_chk1 v70), ∀ a, (k0_off2 v70) a + S1x1x100.size a ≤ S50002x1x100.size a := fun v70 k0_hw1 => k0_hw1

def k0_off3 (k0_t1 : Fin k0_t1_loop.trips) : Fin 3 → Nat :=
  let c0_i32 : BitVec 32 := 0#32
  let c1_i32 : BitVec 32 := 1#32
  let arg7 : BitVec 32 := Scf.iv c0_i32 c1_i32 k0_t1
  let c4_i32 : BitVec 32 := 4#32
  let v67 : BitVec 32 := Scalar.muli arg7 c4_i32
  let c0_i32_43 : BitVec 32 := 0#32
  let v68 : BitVec 32 := Scalar.addi v67 c0_i32_43
  let c4_i32_48 : BitVec 32 := 4#32
  let v74 : BitVec 32 := Scalar.addi v68 c4_i32_48
  let v75 : Index := Scalar.indexCast v74
  let c0_49 : Index := 0#32
  let c0_50 : Index := 0#32
  ![v75.toNat, 0, 0]
def k0_off4 (k0_t1 : Fin k0_t1_loop.trips) : Fin 3 → Nat :=
  let c0_53 : Index := 0#32
  let c0_54 : Index := 0#32
  let c0_i32 : BitVec 32 := 0#32
  let c1_i32 : BitVec 32 := 1#32
  let arg7 : BitVec 32 := Scf.iv c0_i32 c1_i32 k0_t1
  let c4_i32_51 : BitVec 32 := 4#32
  let v79 : BitVec 32 := Scalar.muli arg7 c4_i32_51
  let c1_i32_52 : BitVec 32 := 1#32
  let v80 : BitVec 32 := Scalar.addi v79 c1_i32_52
  let v81 : Index := Scalar.indexCast v80
  ![0, 0, v81.toNat]
def k0_off5 (v82 : BitVec 32) : Fin 3 → Nat :=
  let v83 : Index := Scalar.indexCast v82
  let c0_55 : Index := 0#32
  let c0_56 : Index := 0#32
  ![v83.toNat, 0, 0]

def k0_chk2 (v82 : BitVec 32) : Prop :=
  (∀ a, (k0_off5 v82) a + S1x1x100.size a ≤ S50002x1x100.size a)
theorem k0_off5_inb : ∀ (v82 : BitVec 32) (k0_hw2 : k0_chk2 v82), ∀ a, (k0_off5 v82) a + S1x1x100.size a ≤ S50002x1x100.size a := fun v82 k0_hw2 => k0_hw2

def k0_off6 (k0_t1 : Fin k0_t1_loop.trips) : Fin 3 → Nat :=
  let c0_i32 : BitVec 32 := 0#32
  let c1_i32 : BitVec 32 := 1#32
  let arg7 : BitVec 32 := Scf.iv c0_i32 c1_i32 k0_t1
  let c4_i32_51 : BitVec 32 := 4#32
  let v79 : BitVec 32 := Scalar.muli arg7 c4_i32_51
  let c1_i32_52 : BitVec 32 := 1#32
  let v80 : BitVec 32 := Scalar.addi v79 c1_i32_52
  let c4_i32_57 : BitVec 32 := 4#32
  let v86 : BitVec 32 := Scalar.addi v80 c4_i32_57
  let v87 : Index := Scalar.indexCast v86
  let c0_58 : Index := 0#32
  let c0_59 : Index := 0#32
  ![v87.toNat, 0, 0]
def k0_off7 (k0_t1 : Fin k0_t1_loop.trips) : Fin 3 → Nat :=
  let c0_61 : Index := 0#32
  let c0_62 : Index := 0#32
  let c0_i32 : BitVec 32 := 0#32
  let c1_i32 : BitVec 32 := 1#32
  let arg7 : BitVec 32 := Scf.iv c0_i32 c1_i32 k0_t1
  let c4_i32_60 : BitVec 32 := 4#32
  let v91 : BitVec 32 := Scalar.muli arg7 c4_i32_60
  let c2_i32 : BitVec 32 := 2#32
  let v92 : BitVec 32 := Scalar.addi v91 c2_i32
  let v93 : Index := Scalar.indexCast v92
  ![0, 0, v93.toNat]
def k0_off8 (v94 : BitVec 32) : Fin 3 → Nat :=
  let v95 : Index := Scalar.indexCast v94
  let c0_63 : Index := 0#32
  let c0_64 : Index := 0#32
  ![v95.toNat, 0, 0]

def k0_chk3 (v94 : BitVec 32) : Prop :=
  (∀ a, (k0_off8 v94) a + S1x1x100.size a ≤ S50002x1x100.size a)
theorem k0_off8_inb : ∀ (v94 : BitVec 32) (k0_hw3 : k0_chk3 v94), ∀ a, (k0_off8 v94) a + S1x1x100.size a ≤ S50002x1x100.size a := fun v94 k0_hw3 => k0_hw3

def k0_off9 (k0_t1 : Fin k0_t1_loop.trips) : Fin 3 → Nat :=
  let c0_i32 : BitVec 32 := 0#32
  let c1_i32 : BitVec 32 := 1#32
  let arg7 : BitVec 32 := Scf.iv c0_i32 c1_i32 k0_t1
  let c4_i32_60 : BitVec 32 := 4#32
  let v91 : BitVec 32 := Scalar.muli arg7 c4_i32_60
  let c2_i32 : BitVec 32 := 2#32
  let v92 : BitVec 32 := Scalar.addi v91 c2_i32
  let c4_i32_65 : BitVec 32 := 4#32
  let v98 : BitVec 32 := Scalar.addi v92 c4_i32_65
  let v99 : Index := Scalar.indexCast v98
  let c0_66 : Index := 0#32
  let c0_67 : Index := 0#32
  ![v99.toNat, 0, 0]
def k0_off10 (k0_t1 : Fin k0_t1_loop.trips) : Fin 3 → Nat :=
  let c0_69 : Index := 0#32
  let c0_70 : Index := 0#32
  let c0_i32 : BitVec 32 := 0#32
  let c1_i32 : BitVec 32 := 1#32
  let arg7 : BitVec 32 := Scf.iv c0_i32 c1_i32 k0_t1
  let c4_i32_68 : BitVec 32 := 4#32
  let v103 : BitVec 32 := Scalar.muli arg7 c4_i32_68
  let c3_i32 : BitVec 32 := 3#32
  let v104 : BitVec 32 := Scalar.addi v103 c3_i32
  let v105 : Index := Scalar.indexCast v104
  ![0, 0, v105.toNat]
def k0_off11 (v106 : BitVec 32) : Fin 3 → Nat :=
  let v107 : Index := Scalar.indexCast v106
  let c0_71 : Index := 0#32
  let c0_72 : Index := 0#32
  ![v107.toNat, 0, 0]

def k0_chk4 (v106 : BitVec 32) : Prop :=
  (∀ a, (k0_off11 v106) a + S1x1x100.size a ≤ S50002x1x100.size a)
theorem k0_off11_inb : ∀ (v106 : BitVec 32) (k0_hw4 : k0_chk4 v106), ∀ a, (k0_off11 v106) a + S1x1x100.size a ≤ S50002x1x100.size a := fun v106 k0_hw4 => k0_hw4

def k0_off12 (k0_t1 : Fin k0_t1_loop.trips) : Fin 3 → Nat :=
  let c0_i32 : BitVec 32 := 0#32
  let c1_i32 : BitVec 32 := 1#32
  let arg7 : BitVec 32 := Scf.iv c0_i32 c1_i32 k0_t1
  let c4_i32_68 : BitVec 32 := 4#32
  let v103 : BitVec 32 := Scalar.muli arg7 c4_i32_68
  let c3_i32 : BitVec 32 := 3#32
  let v104 : BitVec 32 := Scalar.addi v103 c3_i32
  let c4_i32_73 : BitVec 32 := 4#32
  let v110 : BitVec 32 := Scalar.addi v104 c4_i32_73
  let v111 : Index := Scalar.indexCast v110
  let c0_74 : Index := 0#32
  let c0_75 : Index := 0#32
  ![v111.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x2500 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S50002x1x100 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S9x100x50 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x50 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2500x50 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![63], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S8x2500x50 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S128x50 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x50 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S8x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2500x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S8x2500 : Shape := ⟨2, ![8, 2500]⟩
abbrev S8x8000 : Shape := ⟨2, ![8, 8000]⟩
abbrev S50002x100 : Shape := ⟨2, ![50002, 100]⟩
abbrev S50x100x9 : Shape := ⟨3, ![50, 100, 9]⟩
abbrev S50 : Shape := ⟨1, ![50]⟩
abbrev S8000x50 : Shape := ⟨2, ![8000, 50]⟩
abbrev S8000 : Shape := ⟨1, ![8000]⟩
abbrev S_ : Shape := ⟨0, ![]⟩
abbrev S8x2500x1 : Shape := ⟨3, ![8, 2500, 1]⟩
abbrev S8x2500x100 : Shape := ⟨3, ![8, 2500, 100]⟩
abbrev S8x2508x100 : Shape := ⟨3, ![8, 2508, 100]⟩
abbrev S8x2500x50 : Shape := ⟨3, ![8, 2500, 50]⟩
abbrev S50x100x1 : Shape := ⟨3, ![50, 100, 1]⟩
abbrev S50x100 : Shape := ⟨2, ![50, 100]⟩
abbrev S1x1x50 : Shape := ⟨3, ![1, 1, 50]⟩
abbrev S8x2500x8000 : Shape := ⟨3, ![8, 2500, 8000]⟩
abbrev S8x8000x2500 : Shape := ⟨3, ![8, 8000, 2500]⟩
abbrev S8x8000x1 : Shape := ⟨3, ![8, 8000, 1]⟩
abbrev S8x8000x50 : Shape := ⟨3, ![8, 8000, 50]⟩
abbrev S1x8000x50 : Shape := ⟨3, ![1, 8000, 50]⟩
abbrev S1x8000 : Shape := ⟨2, ![1, 8000]⟩

abbrev nBuf : Space → Nat
  | .hbm => 110
  | .vmem => 0
  | .smem => 0
  | _ => 0

abbrev bufTy : (tb : Table) → Fin (tcTables nBuf tb) → BufTy
  | .hbm, ⟨0, _⟩ => ⟨S8x2500, .i32⟩
  | .hbm, ⟨1, _⟩ => ⟨S8x8000, .f32⟩
  | .hbm, ⟨2, _⟩ => ⟨S50002x100, .f32⟩
  | .hbm, ⟨3, _⟩ => ⟨S50x100x9, .f32⟩
  | .hbm, ⟨4, _⟩ => ⟨S50, .f32⟩
  | .hbm, ⟨5, _⟩ => ⟨S8000x50, .f32⟩
  | .hbm, ⟨6, _⟩ => ⟨S8000x50, .f32⟩
  | .hbm, ⟨7, _⟩ => ⟨S8000, .f32⟩
  | .hbm, ⟨8, _⟩ => ⟨S_, .i32⟩
  | .hbm, ⟨9, _⟩ => ⟨S8x2500, .i32⟩
  | .hbm, ⟨10, _⟩ => ⟨S8x2500, .i1⟩
  | .hbm, ⟨11, _⟩ => ⟨S_, .i32⟩
  | .hbm, ⟨12, _⟩ => ⟨S8x2500, .i32⟩
  | .hbm, ⟨13, _⟩ => ⟨S8x2500, .i32⟩
  | .hbm, ⟨14, _⟩ => ⟨S8x2500, .i32⟩
  | .hbm, ⟨15, _⟩ => ⟨S8x2500x1, .i32⟩
  | .hbm, ⟨16, _⟩ => ⟨S8x2500x100, .f32⟩
  | .hbm, ⟨17, _⟩ => ⟨S_, .i32⟩
  | .hbm, ⟨18, _⟩ => ⟨S_, .f32⟩
  | .hbm, ⟨19, _⟩ => ⟨S8x2508x100, .f32⟩
  | .hbm, ⟨20, _⟩ => ⟨S_, .f32⟩
  | .hbm, ⟨21, _⟩ => ⟨S8x2500x50, .f32⟩
  | .hbm, ⟨22, _⟩ => ⟨S8x2500x100, .f32⟩
  | .hbm, ⟨23, _⟩ => ⟨S50x100x1, .f32⟩
  | .hbm, ⟨24, _⟩ => ⟨S50x100, .f32⟩
  | .hbm, ⟨25, _⟩ => ⟨S8x2500x50, .f32⟩
  | .hbm, ⟨26, _⟩ => ⟨S8x2500x50, .f32⟩
  | .hbm, ⟨27, _⟩ => ⟨S8x2500x100, .f32⟩
  | .hbm, ⟨28, _⟩ => ⟨S50x100x1, .f32⟩
  | .hbm, ⟨29, _⟩ => ⟨S50x100, .f32⟩
  | .hbm, ⟨30, _⟩ => ⟨S8x2500x50, .f32⟩
  | .hbm, ⟨31, _⟩ => ⟨S8x2500x50, .f32⟩
  | .hbm, ⟨32, _⟩ => ⟨S8x2500x100, .f32⟩
  | .hbm, ⟨33, _⟩ => ⟨S50x100x1, .f32⟩
  | .hbm, ⟨34, _⟩ => ⟨S50x100, .f32⟩
  | .hbm, ⟨35, _⟩ => ⟨S8x2500x50, .f32⟩
  | .hbm, ⟨36, _⟩ => ⟨S8x2500x50, .f32⟩
  | .hbm, ⟨37, _⟩ => ⟨S8x2500x100, .f32⟩
  | .hbm, ⟨38, _⟩ => ⟨S50x100x1, .f32⟩
  | .hbm, ⟨39, _⟩ => ⟨S50x100, .f32⟩
  | .hbm, ⟨40, _⟩ => ⟨S8x2500x50, .f32⟩
  | .hbm, ⟨41, _⟩ => ⟨S8x2500x50, .f32⟩
  | .hbm, ⟨42, _⟩ => ⟨S8x2500x100, .f32⟩
  | .hbm, ⟨43, _⟩ => ⟨S50x100x1, .f32⟩
  | .hbm, ⟨44, _⟩ => ⟨S50x100, .f32⟩
  | .hbm, ⟨45, _⟩ => ⟨S8x2500x50, .f32⟩
  | .hbm, ⟨46, _⟩ => ⟨S8x2500x50, .f32⟩
  | .hbm, ⟨47, _⟩ => ⟨S8x2500x100, .f32⟩
  | .hbm, ⟨48, _⟩ => ⟨S50x100x1, .f32⟩
  | .hbm, ⟨49, _⟩ => ⟨S50x100, .f32⟩
  | .hbm, ⟨50, _⟩ => ⟨S8x2500x50, .f32⟩
  | .hbm, ⟨51, _⟩ => ⟨S8x2500x50, .f32⟩
  | .hbm, ⟨52, _⟩ => ⟨S8x2500x100, .f32⟩
  | .hbm, ⟨53, _⟩ => ⟨S50x100x1, .f32⟩
  | .hbm, ⟨54, _⟩ => ⟨S50x100, .f32⟩
  | .hbm, ⟨55, _⟩ => ⟨S8x2500x50, .f32⟩
  | .hbm, ⟨56, _⟩ => ⟨S8x2500x50, .f32⟩
  | .hbm, ⟨57, _⟩ => ⟨S8x2500x100, .f32⟩
  | .hbm, ⟨58, _⟩ => ⟨S50x100x1, .f32⟩
  | .hbm, ⟨59, _⟩ => ⟨S50x100, .f32⟩
  | .hbm, ⟨60, _⟩ => ⟨S8x2500x50, .f32⟩
  | .hbm, ⟨61, _⟩ => ⟨S8x2500x50, .f32⟩
  | .hbm, ⟨62, _⟩ => ⟨S8x2500x100, .f32⟩
  | .hbm, ⟨63, _⟩ => ⟨S50x100x1, .f32⟩
  | .hbm, ⟨64, _⟩ => ⟨S50x100, .f32⟩
  | .hbm, ⟨65, _⟩ => ⟨S8x2500x50, .f32⟩
  | .hbm, ⟨66, _⟩ => ⟨S8x2500x50, .f32⟩
  | .hbm, ⟨67, _⟩ => ⟨S1x1x50, .f32⟩
  | .hbm, ⟨68, _⟩ => ⟨S8x2500x50, .f32⟩
  | .hbm, ⟨69, _⟩ => ⟨S8x2500x50, .f32⟩
  | .hbm, ⟨70, _⟩ => ⟨S8x2500x50, .f32⟩
  | .hbm, ⟨71, _⟩ => ⟨S8x2500x8000, .f32⟩
  | .hbm, ⟨72, _⟩ => ⟨S8x8000x2500, .f32⟩
  | .hbm, ⟨73, _⟩ => ⟨S_, .f32⟩
  | .hbm, ⟨74, _⟩ => ⟨S8x8000, .f32⟩
  | .hbm, ⟨75, _⟩ => ⟨S_, .f32⟩
  | .hbm, ⟨76, _⟩ => ⟨S8x8000, .f32⟩
  | .hbm, ⟨77, _⟩ => ⟨S8x8000, .f32⟩
  | .hbm, ⟨78, _⟩ => ⟨S8x8000x1, .f32⟩
  | .hbm, ⟨79, _⟩ => ⟨S8x8000x2500, .f32⟩
  | .hbm, ⟨80, _⟩ => ⟨S8x8000x2500, .f32⟩
  | .hbm, ⟨81, _⟩ => ⟨S8x8000x2500, .f32⟩
  | .hbm, ⟨82, _⟩ => ⟨S_, .f32⟩
  | .hbm, ⟨83, _⟩ => ⟨S8x8000, .f32⟩
  | .hbm, ⟨84, _⟩ => ⟨S8x8000x1, .f32⟩
  | .hbm, ⟨85, _⟩ => ⟨S8x8000x2500, .f32⟩
  | .hbm, ⟨86, _⟩ => ⟨S8x8000x2500, .f32⟩
  | .hbm, ⟨87, _⟩ => ⟨S8x8000x50, .f32⟩
  | .hbm, ⟨88, _⟩ => ⟨S1x8000x50, .f32⟩
  | .hbm, ⟨89, _⟩ => ⟨S8x8000x50, .f32⟩
  | .hbm, ⟨90, _⟩ => ⟨S8x8000x50, .f32⟩
  | .hbm, ⟨91, _⟩ => ⟨S_, .f32⟩
  | .hbm, ⟨92, _⟩ => ⟨S8x8000, .f32⟩
  | .hbm, ⟨93, _⟩ => ⟨S1x8000, .f32⟩
  | .hbm, ⟨94, _⟩ => ⟨S8x8000, .f32⟩
  | .hbm, ⟨95, _⟩ => ⟨S8x8000, .f32⟩
  | .hbm, ⟨96, _⟩ => ⟨S_, .f32⟩
  | .hbm, ⟨97, _⟩ => ⟨S8x8000, .f32⟩
  | .hbm, ⟨98, _⟩ => ⟨S8x8000, .f32⟩
  | .hbm, ⟨99, _⟩ => ⟨S8x8000, .f32⟩
  | .hbm, ⟨100, _⟩ => ⟨S8x8000, .f32⟩
  | .hbm, ⟨101, _⟩ => ⟨S8x8000, .f32⟩
  | .hbm, ⟨102, _⟩ => ⟨S8x8000, .f32⟩
  | .hbm, ⟨103, _⟩ => ⟨S8x8000, .f32⟩
  | .hbm, ⟨104, _⟩ => ⟨S8x8000, .f32⟩
  | .hbm, ⟨105, _⟩ => ⟨S8x8000, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S_, .f32⟩
  | _, _ => ⟨S8x2500, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_call0_v0 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_cst_2 : Ref sig .tc := ⟨.hbm, 73, rfl⟩
abbrev main_v60 : Ref sig .tc := ⟨.hbm, 74, rfl⟩
abbrev main_cst_3 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_4 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_5 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_6 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_7 : Ref sig .tc := ⟨.hbm, 106, rfl⟩
abbrev main_v88 : Ref sig .tc := ⟨.hbm, 107, rfl⟩
abbrev main_cst_8 : Ref sig .tc := ⟨.hbm, 108, rfl⟩
abbrev main_v89 : Ref sig .tc := ⟨.hbm, 109, rfl⟩

abbrev nD : Nat := 1
abbrev τ : Topo := Topo.v7x

variable {F : FTy → Type} [FloatOps F]
-- ==== Proof.Pre.lean ====
module

public import proofs.«01_k».proof.Pre_tokens_in_table
public import proofs.«01_k».proof.Pre_tokens_and_finite_weights
public import Idealize.ShloMosaic.Lib.ReduceAll
public import Idealize.ShloMosaic.PureOps.Ideal

@[expose] public section

noncomputable section

namespace Cert.Caml

open Idealize.ShloMosaic

/-- The shape relations the first precondition states. -/
theorem tokFacts : Cert.Pre_tokens_in_table.Facts := ⟨by decide⟩

/-- The shape relations the second precondition states. -/
theorem finFacts : Cert.Pre_tokens_and_finite_weights.Facts := ⟨by decide, by decide, by decide, by decide, by decide⟩

attribute [local instance] tokFacts finFacts

/-- A word that is at least 0 and less than 50002 as a signed integer is less than 50002 as a natural. -/
theorem tok_lt {a : BitVec 32} (h : IntOp.andi (IntOp.cmpi .sge a 0#32) (IntOp.cmpi .slt a 50002#32) = 1#1) : a.toNat < 50002 := by
  have h2 := IntOp.andi_eq_one.1 h
  have h0 : (0#32).sle a = true := by
    have := h2.1
    simp only [IntOp.cmpi] at this
    revert this; cases h : (0#32).sle a <;> simp
  have h1 : a.slt 50002#32 = true := by
    have := h2.2
    simp only [IntOp.cmpi] at this
    revert this; cases h : a.slt 50002#32 <;> simp
  rw [BitVec.sle_iff_toInt_le] at h0
  rw [BitVec.slt_iff_toInt_lt] at h1
  have e0 : (0#32).toInt = 0 := by decide
  have e1 : (50002#32).toInt = 50002 := by decide
  rw [e0] at h0; rw [e1] at h1
  rw [BitVec.toInt_eq_toNat_cond] at h0 h1
  split at h0 <;> omega

variable {F : FTy → Type} [FloatOps F]

/-- The first precondition puts every token in the table. -/
theorem tokens_of_pre (x : IVec Pre_tokens_in_table.S8x2500 32) (a1 : FVec F Pre_tokens_in_table.S8x8000 .f32)
    (a2 : FVec F Pre_tokens_in_table.S50002x100 .f32) (a3 : FVec F Pre_tokens_in_table.S50x100x9 .f32) (a4 : FVec F Pre_tokens_in_table.S50 .f32)
    (a5 a6 : FVec F Pre_tokens_in_table.S8000x50 .f32) (a7 : FVec F Pre_tokens_in_table.S8000 .f32)
    (h : Cert.Pre_tokens_in_table.fn x a1 a2 a3 a4 a5 a6 a7 = fun _ => 1#1) (i : Pre_tokens_in_table.S8x2500.Idx) : (x i).toNat < 50002 :=
  tok_lt (congrFun h i)

/-- The second precondition puts every token in the table. -/
theorem tokens_of_fin (x : IVec Pre_tokens_in_table.S8x2500 32) (a1 : FVec F Pre_tokens_in_table.S8x8000 .f32)
    (a2 : FVec F Pre_tokens_in_table.S50002x100 .f32) (a3 : FVec F Pre_tokens_in_table.S50x100x9 .f32) (a4 : FVec F Pre_tokens_in_table.S50 .f32)
    (a5 a6 : FVec F Pre_tokens_in_table.S8000x50 .f32) (a7 : FVec F Pre_tokens_in_table.S8000 .f32)
    (h : Cert.Pre_tokens_and_finite_weights.fn x a1 a2 a3 a4 a5 a6 a7 = fun _ => 1#1) (i : Pre_tokens_in_table.S8x2500.Idx) :
    (x i).toNat < 50002 := by
  haveI : Subsingleton Pre_tokens_and_finite_weights.S_.Idx := ⟨fun a b => funext fun k => k.elim0⟩
  exact tok_lt (Host.reduce_andi_all _ _ _ _ (fun k => k.elim0) (IntOp.andi_eq_one.1 (IntOp.andi_eq_one.1 (congrFun h fun k => k.elim0)).1).1 i)

/-- The second precondition makes the label vectors finite: the magnitude of each is below infinity. -/
theorem labels_of_fin (x : IVec Pre_tokens_in_table.S8x2500 32) (a1 : FVec F Pre_tokens_in_table.S8x8000 .f32)
    (a2 : FVec F Pre_tokens_in_table.S50002x100 .f32) (a3 : FVec F Pre_tokens_in_table.S50x100x9 .f32) (a4 : FVec F Pre_tokens_in_table.S50 .f32)
    (a5 a6 : FVec F Pre_tokens_in_table.S8000x50 .f32) (a7 : FVec F Pre_tokens_in_table.S8000 .f32)
    (h : Cert.Pre_tokens_and_finite_weights.fn x a1 a2 a3 a4 a5 a6 a7 = fun _ => 1#1) (i : Pre_tokens_and_finite_weights.S8000x50.Idx) :
    FloatOps.cmpf .olt (FloatOps.hostAbsf (a5 i)) (FloatOps.ofBits (F := F) .f32 0x7F800000#32) = 1#1 := by
  haveI : Subsingleton Pre_tokens_and_finite_weights.S_.Idx := ⟨fun a b => funext fun k => k.elim0⟩
  exact Host.reduce_andi_all _ _ _ _ (fun k => k.elim0) (IntOp.andi_eq_one.1 (IntOp.andi_eq_one.1 (congrFun h fun k => k.elim0)).1).2 i

/-- The second precondition makes the final weights finite: the magnitude of each is below infinity. -/
theorem weights_of_fin (x : IVec Pre_tokens_in_table.S8x2500 32) (a1 : FVec F Pre_tokens_in_table.S8x8000 .f32)
    (a2 : FVec F Pre_tokens_in_table.S50002x100 .f32) (a3 : FVec F Pre_tokens_in_table.S50x100x9 .f32) (a4 : FVec F Pre_tokens_in_table.S50 .f32)
    (a5 a6 : FVec F Pre_tokens_in_table.S8000x50 .f32) (a7 : FVec F Pre_tokens_in_table.S8000 .f32)
    (h : Cert.Pre_tokens_and_finite_weights.fn x a1 a2 a3 a4 a5 a6 a7 = fun _ => 1#1) (i : Pre_tokens_and_finite_weights.S8000x50.Idx) :
    FloatOps.cmpf .olt (FloatOps.hostAbsf (a6 i)) (FloatOps.ofBits (F := F) .f32 0x7F800000#32) = 1#1 := by
  haveI : Subsingleton Pre_tokens_and_finite_weights.S_.Idx := ⟨fun a b => funext fun k => k.elim0⟩
  exact Host.reduce_andi_all _ _ _ _ (fun k => k.elim0) (IntOp.andi_eq_one.1 (congrFun h fun k => k.elim0)).2 i

end Cert.Caml

end
-- ==== Proof.ConvBody.lean ====
module

public import proofs.«01_k».proof.Proof.Gen.KernelIdeal.Launch
public import proofs.«01_k».proof.Proof.Gen.KernelIdeal.Skeleton
public import proofs.«01_k».proof.Proof.Gen.KernelIdeal.Loops
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.ValueIdx
public import Idealize.ShloMosaic.Lib.WritesUnit
public import Idealize.ShloMosaic.Lib.VecWindow
public import Idealize.ShloMosaic.Lib.Pipeline.Value

@[expose] public section

noncomputable section

namespace Cert.Caml

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Every token of one row of `x` names a row of the embedding table. -/
def TokOK (X : S1x1x2500.Idx → BitVec 32) : Prop := ∀ l : Fin 2500, (X (ix3 0 0 l)).toNat < 50002

/-- The padded embedding rows the first call gathers into its scratch: four zero rows, one table row per token, four
    zero rows. (The `min` only makes the index a legal one; it does nothing on tokens in the table.) -/
def embRows (X : S1x1x2500.Idx → BitVec 32) (T : S50002x1x100.Idx → F .f32) : S2508x1x100.Idx → F .f32 := fun j =>
  if h : 4 ≤ (j 0).val ∧ (j 0).val < 2504 then
    T (ix3 ⟨min (X (ix3 0 0 ⟨(j 0).val - 4, by omega⟩)).toNat 50001, by omega⟩ 0 (j 2))
  else Scalar.ofBits .f32 0x00000000#32

/-- What the scratch reads before trip `k` of the gather: its rows are the padded rows except those still to be
    gathered. -/
def Gathered (X : S1x1x2500.Idx → BitVec 32) (T : S50002x1x100.Idx → F .f32) (k : ℕ) (R : S2508x1x100.Idx → F .f32) : Prop :=
  ∀ j : S2508x1x100.Idx, (j 0).val < 4 + 4 * k ∨ 2504 ≤ (j 0).val → R j = embRows X T j

/-- A one-word load of a row of tokens reads the token at the load's column. -/
theorem tok_read {κ : Kind} {sp : Space} (v : View sig κ sp S1x1x2500 .i32) (f : v.ty.Contents (Elt F)) {off : Fin 3 → ℕ}
    (inb : ∀ a, off a + S1x1x1.size a ≤ S1x1x2500.size a) (n : Fin 2500) (h : off = ![0, 0, n.val]) (y : S1x1x1.Idx) :
    v.readAt (Elt F) (Rect.unit (s := S1x1x2500) off S1x1x1.size inb).toLoadRect f y = v.read (Elt F) f (ix3 0 0 n) := by
  subst h
  refine congrArg (v.read (Elt F) f) (funext fun a => Fin.ext ?_)
  have h0 : (y 0).val < 1 := (y 0).isLt
  have h1 : (y 1).val < 1 := (y 1).isLt
  have h2 : (y 2).val < 1 := (y 2).isLt
  match a with
  | ⟨0, _⟩ => show 0 + 1 * (y 0).val = 0; omega
  | ⟨1, _⟩ => show 0 + 1 * (y 1).val = 0; omega
  | ⟨2, _⟩ => show n.val + 1 * (y 2).val = n.val; omega

/-- A one-row load of the table reads that row. -/
theorem row_read {κ : Kind} {sp : Space} (v : View sig κ sp S50002x1x100 .f32) (f : v.ty.Contents (Elt F)) {off : Fin 3 → ℕ}
    (inb : ∀ a, off a + S1x1x100.size a ≤ S50002x1x100.size a) (n : Fin 50002) (h : off = ![n.val, 0, 0]) (y : S1x1x100.Idx) :
    v.readAt (Elt F) (Rect.unit (s := S50002x1x100) off S1x1x100.size inb).toLoadRect f y = v.read (Elt F) f (ix3 n 0 (y 2)) := by
  subst h
  refine congrArg (v.read (Elt F) f) (funext fun a => Fin.ext ?_)
  have h0 : (y 0).val < 1 := (y 0).isLt
  have h1 : (y 1).val < 1 := (y 1).isLt
  match a with
  | ⟨0, _⟩ => show n.val + 1 * (y 0).val = n.val; omega
  | ⟨1, _⟩ => show 0 + 1 * (y 1).val = 0; omega
  | ⟨2, _⟩ => show 0 + 1 * (y 2).val = (y 2).val; omega

/-- The table row a token of the table names. -/
def tokRow (X : S1x1x2500.Idx → BitVec 32) (T : S50002x1x100.Idx → F .f32) (l : Fin 2500) : S1x1x100.Idx → F .f32 :=
  fun y => T (ix3 ⟨min (X (ix3 0 0 l)).toNat 50001, by omega⟩ 0 (y 2))

/-- Storing token `4k+m`'s table row at row `4k+m+4`, on top of contents gathered up to that row. -/
theorem gathered_cons {κ : Kind} {sp : Space} (v : View sig κ sp S2508x1x100 .f32) (f : v.ty.Contents (Elt F))
    (X : S1x1x2500.Idx → BitVec 32) (T : S50002x1x100.Idx → F .f32) {off : Fin 3 → ℕ} (inb : ∀ a, off a + S1x1x100.size a ≤ S2508x1x100.size a)
    (l : Fin 2500) (h : off = ![l.val + 4, 0, 0]) (w : S1x1x100.Idx → F .f32) (hw : w = tokRow X T l) (L : List (View.Piece (Elt F) S2508x1x100 .f32))
    (hL : ∀ j : S2508x1x100.Idx, (j 0).val < 4 + l.val ∨ 2504 ≤ (j 0).val → v.read (Elt F) (v.writes (Elt F) f L) j = embRows X T j) :
    ∀ j : S2508x1x100.Idx, (j 0).val < 4 + (l.val + 1) ∨ 2504 ≤ (j 0).val →
      v.read (Elt F) (v.writes (Elt F) f (⟨Rect.unit (s := S2508x1x100) off S1x1x100.size inb, w⟩ :: L)) j = embRows X T j := by
  intro j hj
  have hl := l.isLt
  have h1 : (j 1).val < 1 := (j 1).isLt
  have h2 : (j 2).val < 100 := (j 2).isLt
  by_cases hr : (j 0).val = l.val + 4
  · rw [View.read_writes_cons_unit_of_mem v f inb w L j (ix3 0 0 (j 2)) h (fun a => by
      match a with
      | ⟨0, _⟩ => show (j 0).val = l.val + 4 + 0; omega
      | ⟨1, _⟩ => show (j 1).val = 0 + 0; omega
      | ⟨2, _⟩ => show (j 2).val = 0 + (j 2).val; omega)]
    subst hw
    unfold embRows tokRow
    rw [dif_pos ⟨by omega, by omega⟩]
    have e : l = (⟨(j 0).val - 4, by omega⟩ : Fin 2500) := Fin.ext (by show l.val = (j 0).val - 4; omega)
    exact congrArg (fun l' => tokRow X T l' (ix3 0 0 (j 2))) e
  · rw [View.read_writes_cons_unit_of_not_mem v f inb w L j h 0 (by
      show (j 0).val < l.val + 4 ∨ l.val + 4 + 1 ≤ (j 0).val; omega)]
    exact hL j (by omega)

/-- The two zero stores before the gather: the four rows at either end of the scratch read as the padded rows do. -/
theorem gathered_zero {κ : Kind} {sp : Space} (v : View sig κ sp S2508x1x100 .f32) (f : v.ty.Contents (Elt F))
    (X : S1x1x2500.Idx → BitVec 32) (T : S50002x1x100.Idx → F .f32) :
    Gathered (F := F) X T 0 (v.read (Elt F) (v.writes (Elt F) f
      [⟨Rect.unit (s := S2508x1x100) ![2504, 0, 0] S4x1x100.size inb_S2508x1x100_S4x1x100_2504_0_0, k0_pay5⟩,
        ⟨Rect.unit (s := S2508x1x100) ![0, 0, 0] S4x1x100.size inb_S2508x1x100_S4x1x100_0_0_0, k0_pay4⟩])) := by
  intro j hj
  have h0 : (j 0).val < 2508 := (j 0).isLt
  have h1 : (j 1).val < 1 := (j 1).isLt
  have hz : embRows X T j = Scalar.ofBits .f32 0x00000000#32 := by
    unfold embRows; rw [dif_neg (by omega)]
  rw [hz]
  by_cases h : 2504 ≤ (j 0).val
  · rw [View.read_writes_cons_unit_of_mem v f (off' := ![2504, 0, 0]) (size := S4x1x100.size) inb_S2508x1x100_S4x1x100_2504_0_0 k0_pay5 _ j (ix3 (⟨(j 0).val - 2504, by omega⟩ : Fin 4) 0 (j 2)) rfl (fun a => by
      match a with
      | ⟨0, _⟩ => show (j 0).val = 2504 + ((j 0).val - 2504); omega
      | ⟨1, _⟩ => show (j 1).val = 0 + 0; omega
      | ⟨2, _⟩ => show (j 2).val = 0 + (j 2).val; omega)]
    rfl
  · rw [View.read_writes_cons_unit_of_not_mem v f (off' := ![2504, 0, 0]) (size := S4x1x100.size) inb_S2508x1x100_S4x1x100_2504_0_0 k0_pay5 _ j rfl 0 (by
      show (j 0).val < 2504 ∨ 2504 + 4 ≤ (j 0).val; omega)]
    rw [View.read_writes_cons_unit_of_mem v f (off' := ![0, 0, 0]) (size := S4x1x100.size) inb_S2508x1x100_S4x1x100_0_0_0 k0_pay4 _ j (ix3 (⟨(j 0).val, by omega⟩ : Fin 4) 0 (j 2)) rfl (fun a => by
      match a with
      | ⟨0, _⟩ => show (j 0).val = 0 + (j 0).val; omega
      | ⟨1, _⟩ => show (j 1).val = 0 + 0; omega
      | ⟨2, _⟩ => show (j 2).val = 0 + (j 2).val; omega)]
    rfl

/-- What a trip stores for a token: the one-row load at the token's word, reshaped twice, is the token's table row. -/
theorem row_of_word {κ : Kind} {sp : Space} (v : View sig κ sp S50002x1x100 .f32) (f : v.ty.Contents (Elt F))
    (X : S1x1x2500.Idx → BitVec 32) (hX : TokOK X) (l : Fin 2500) (b : BitVec 32) (hb : b = X (ix3 0 0 l)) {off : Fin 3 → ℕ}
    (inb : ∀ a, off a + S1x1x100.size a ≤ S50002x1x100.size a) (h : off = ![b.toNat, 0, 0]) :
    shapeCast S1x1x100 (shapeCast S100 (v.readAt (Elt F) (Rect.unit (s := S50002x1x100) off S1x1x100.size inb).toLoadRect f)
        shapeCasts_S1x1x100_S100) shapeCasts_S100_S1x1x100 = tokRow X (v.read (Elt F) f) l := by
  rw [shapeCast_shapeCast]
  funext y
  have hl := hX l
  rw [row_read v f inb ⟨min (X (ix3 0 0 l)).toNat 50001, by omega⟩ (by
    rw [h, hb]; show _ = ![min (X (ix3 0 0 l)).toNat 50001, 0, 0]
    rw [Nat.min_eq_left (by omega)])]
  rfl

/-- A word below the table's height passes the row load's check (the four checks are one condition). -/
theorem chk_of_lt {v : BitVec 32} (h : v.toNat < 50002) : k0_chk1 v ∧ k0_chk2 v ∧ k0_chk3 v ∧ k0_chk4 v := by
  have key : ∀ a : Fin 3, (![v.toNat, 0, 0] : Fin 3 → ℕ) a + S1x1x100.size a ≤ S50002x1x100.size a := fun a => by
    match a with
    | ⟨0, _⟩ => show v.toNat + 1 ≤ 50002; omega
    | ⟨1, _⟩ => show 0 + 1 ≤ 1; omega
    | ⟨2, _⟩ => show 0 + 100 ≤ 100; omega
  exact ⟨key, key, key, key⟩

/-- What one trip of the gather owns: the tokens, the table and the scratch. -/
abbrev tripOwns (c : Dev nD) (arg1 : Memref sig .tc .smem S1x1x2500 .i32) (arg2 : Memref sig .tc .vmem S50002x1x100 .f32) (arg6 : Memref sig .tc .vmem S2508x1x100 .f32)
    (f1 : BufTy.Contents (Elt F) arg1.view.ty) (f2 : BufTy.Contents (Elt F) arg2.view.ty) (f6 : BufTy.Contents (Elt F) arg6.view.ty) : sProp 𝕄 :=
  iprop((arg1.view.loc (c : Thread nD τ) ↦[arg1.view.set]{fullShare} f1) ∗ (arg2.view.loc (c : Thread nD τ) ↦[arg2.view.set]{fullShare} f2)
    ∗ (arg6.view.loc (c : Thread nD τ) ↦[arg6.view.set]{fullShare} f6))

section Trip

variable (𝒱 : Variants) (c : Dev nD) (bd : Option 𝒱.V) (i : grid0.Coords)
  (arg1 : Memref sig .tc .smem S1x1x2500 .i32) (harg1 : arg1.IsWhole) (arg2 : Memref sig .tc .vmem S50002x1x100 .f32) (harg2 : arg2.IsWhole)
  (arg3 : Memref sig .tc .vmem S9x100x50 .f32) (harg3 : arg3.IsWhole) (arg4 : Memref sig .tc .vmem S1x50 .f32) (harg4 : arg4.IsWhole)
  (arg5 : Memref sig .tc .vmem S1x2500x50 .bf16) (harg5 : arg5.IsWhole) (arg6 : Memref sig .tc .vmem S2508x1x100 .f32) (harg6 : arg6.IsWhole)
  (f1 : BufTy.Contents (Elt F) arg1.view.ty) (f2 : BufTy.Contents (Elt F) arg2.view.ty)

/-- One trip of the gather writes the four rows `4k+4 … 4k+7` of the scratch. -/
theorem trip_gathers (E : Set ℕ) (hX : TokOK (arg1.view.read (Elt F) f1)) (k : Fin k0_t1_loop.trips) (f6 : BufTy.Contents (Elt F) arg6.view.ty)
    (h6 : Gathered (F := F) (arg1.view.read (Elt F) f1) (arg2.view.read (Elt F) f2) k.val (arg6.view.read (Elt F) f6)) :
    tripOwns (F := F) c arg1 arg2 arg6 f1 f2 f6
      ⊢ wp frame (wpE (defs₀ (F := F)) 𝒱 (c : Thread nD τ) bd) E
          (k0_t1_body (F := F) i arg1 harg1 arg2 harg2 arg3 harg3 arg4 harg4 arg5 harg5 arg6 harg6 k PUnit.unit)
          (fun _ => iprop(∃ f, tripOwns (F := F) c arg1 arg2 arg6 f1 f2 f
            ∗ ⌜Gathered (F := F) (arg1.view.read (Elt F) f1) (arg2.view.read (Elt F) f2) (k.val + 1) (arg6.view.read (Elt F) f)⌝)) := by
  have hk : k.val < 625 := Nat.lt_of_lt_of_le k.isLt k0_t1_abs.2.1
  have k0_hw1 : k0_chk1 (arg1.view.readAt (Elt F) (Rect.unit (s := S1x1x2500) (k0_off1 k) S1x1x1.size (k0_off1_inb k)).toLoadRect f1 (Shape.Idx.first (numel1_S1x1x1.symm ▸ Nat.one_pos))) := by
    rw [tok_read arg1.view f1 (k0_off1_inb k) ⟨4 * k.val + 0, by omega⟩ (k0_off1_eq k)]
    exact (chk_of_lt (hX _)).1
  have k0_hw2 : k0_chk2 (arg1.view.readAt (Elt F) (Rect.unit (s := S1x1x2500) (k0_off4 k) S1x1x1.size (k0_off4_inb k)).toLoadRect f1 (Shape.Idx.first (numel1_S1x1x1.symm ▸ Nat.one_pos))) := by
    rw [tok_read arg1.view f1 (k0_off4_inb k) ⟨4 * k.val + 1, by omega⟩ (k0_off4_eq k)]
    exact (chk_of_lt (hX _)).2.1
  have k0_hw3 : k0_chk3 (arg1.view.readAt (Elt F) (Rect.unit (s := S1x1x2500) (k0_off7 k) S1x1x1.size (k0_off7_inb k)).toLoadRect f1 (Shape.Idx.first (numel1_S1x1x1.symm ▸ Nat.one_pos))) := by
    rw [tok_read arg1.view f1 (k0_off7_inb k) ⟨4 * k.val + 2, by omega⟩ (k0_off7_eq k)]
    exact (chk_of_lt (hX _)).2.2.1
  have k0_hw4 : k0_chk4 (arg1.view.readAt (Elt F) (Rect.unit (s := S1x1x2500) (k0_off10 k) S1x1x1.size (k0_off10_inb k)).toLoadRect f1 (Shape.Idx.first (numel1_S1x1x1.symm ▸ Nat.one_pos))) := by
    rw [tok_read arg1.view f1 (k0_off10_inb k) ⟨4 * k.val + 3, by omega⟩ (k0_off10_eq k)]
    exact (chk_of_lt (hX _)).2.2.2
  unfold k0_t1_body
  iintro ⟨H1, H2, H6⟩
  sl_exec
  sl_step
  iexists _
  isplitl [H1 H2 H6]
  · isplitl [H1]; · iexact H1
    isplitl [H2]; · iexact H2
    iexact H6
  ipureintro
  refine gathered_cons arg6.view f6 _ _ (k0_off12_inb k) ⟨4 * k.val + 3, by omega⟩ (k0_off12_eq k) _ ?_ _ ?_
  · exact row_of_word arg2.view f2 _ hX _ _ (tok_read arg1.view f1 (k0_off10_inb k) ⟨4 * k.val + 3, by omega⟩ (k0_off10_eq k) _)
      (k0_off11_inb _ k0_hw4) rfl
  refine gathered_cons arg6.view f6 _ _ (k0_off9_inb k) ⟨4 * k.val + 2, by omega⟩ (k0_off9_eq k) _ ?_ _ ?_
  · exact row_of_word arg2.view f2 _ hX _ _ (tok_read arg1.view f1 (k0_off7_inb k) ⟨4 * k.val + 2, by omega⟩ (k0_off7_eq k) _)
      (k0_off8_inb _ k0_hw3) rfl
  refine gathered_cons arg6.view f6 _ _ (k0_off6_inb k) ⟨4 * k.val + 1, by omega⟩ (k0_off6_eq k) _ ?_ _ ?_
  · exact row_of_word arg2.view f2 _ hX _ _ (tok_read arg1.view f1 (k0_off4_inb k) ⟨4 * k.val + 1, by omega⟩ (k0_off4_eq k) _)
      (k0_off5_inb _ k0_hw2) rfl
  refine gathered_cons arg6.view f6 _ _ (k0_off3_inb k) ⟨4 * k.val, by omega⟩ (k0_off3_eq k) _ ?_ _ ?_
  · exact row_of_word arg2.view f2 _ hX _ _ (tok_read arg1.view f1 (k0_off1_inb k) ⟨4 * k.val, by omega⟩ (k0_off1_eq k) _)
      (k0_off2_inb _ k0_hw1) rfl
  exact h6

/-- The gather loop by its invariant: before trip `k` the scratch reads the padded rows gathered so far. -/
@[instance_reducible] def gatherLoop (E : Set ℕ) (hX : TokOK (arg1.view.read (Elt F) f1)) :
    LoopInvTy_k0_t1 (F := F) Unit ℕ (UR sig nD τ) ℕ 𝒱 c bd E i arg1 harg1 arg2 harg2 arg3 harg3 arg4 harg4 arg5 harg5 arg6 harg6 where
  inv k _ := iprop((arg1.view.loc (c : Thread nD τ) ↦[arg1.view.set]{fullShare} f1) ∗ (arg2.view.loc (c : Thread nD τ) ↦[arg2.view.set]{fullShare} f2)
    ∗ (∃ f, (arg6.view.loc (c : Thread nD τ) ↦[arg6.view.set]{fullShare} f)
      ∗ ⌜Gathered (F := F) (arg1.view.read (Elt F) f1) (arg2.view.read (Elt F) f2) k (arg6.view.read (Elt F) f)⌝))
  step k acc := by
    iintro ⟨H1, H2, ⟨%f6, H6, %h6⟩⟩
    iapply (wp_wand_r Idealize.ShloMosaic.frame (wpE (defs₀ (F := F)) 𝒱 (c : Thread nD τ) bd) E)
    isplitl [H1 H2 H6]
    · iapply (trip_gathers 𝒱 c bd i arg1 harg1 arg2 harg2 arg3 harg3 arg4 harg4 arg5 harg5 arg6 harg6 f1 f2 E hX k f6 h6)
      isplitl [H1]; · iexact H1
      isplitl [H2]; · iexact H2
      iexact H6
    · iintro %_ ⟨%f, ⟨H1, H2, H6⟩, %h⟩
      isplitl [H1]; · iexact H1
      isplitl [H2]; · iexact H2
      iexists f; isplitl [H6]; · iexact H6
      ipureintro; exact h

end Trip

/-- What the first call's body leaves in its output block: nine shifted products of the padded rows with the weight's
    nine slices, added in order to zero, the bias added, the hyperbolic tangent taken and rounded to bfloat16 (the
    payloads are the kernel's own operations). -/
def convBlock (X : S1x1x2500.Idx → BitVec 32) (T : S50002x1x100.Idx → F .f32) (W : S9x100x50.Idx → F .f32) (B : S1x50.Idx → F .f32) :
    S1x2500x50.Idx → F .bf16 :=
  let e := embRows X T
  k0_pay1 (k0_pay11 (k0_pay8 e)
    (k0_pay9 e (View.ld W (Rect.unit (s := S9x100x50) ![0, 0, 0] S1x100x50.size inb_S9x100x50_S1x100x50_0_0_0))
      (View.ld W (Rect.unit (s := S9x100x50) ![1, 0, 0] S1x100x50.size inb_S9x100x50_S1x100x50_1_0_0))
      (View.ld W (Rect.unit (s := S9x100x50) ![2, 0, 0] S1x100x50.size inb_S9x100x50_S1x100x50_2_0_0)))
    (k0_pay10 e)
    (View.ld W (Rect.unit (s := S9x100x50) ![3, 0, 0] S1x100x50.size inb_S9x100x50_S1x100x50_3_0_0))
    (View.ld W (Rect.unit (s := S9x100x50) ![4, 0, 0] S1x100x50.size inb_S9x100x50_S1x100x50_4_0_0))
    (View.ld W (Rect.unit (s := S9x100x50) ![5, 0, 0] S1x100x50.size inb_S9x100x50_S1x100x50_5_0_0))
    (View.ld W (Rect.unit (s := S9x100x50) ![6, 0, 0] S1x100x50.size inb_S9x100x50_S1x100x50_6_0_0))
    (View.ld W (Rect.unit (s := S9x100x50) ![7, 0, 0] S1x100x50.size inb_S9x100x50_S1x100x50_7_0_0))
    (View.ld W (Rect.unit (s := S9x100x50) ![8, 0, 0] S1x100x50.size inb_S9x100x50_S1x100x50_8_0_0))
    B)

section Body

variable (𝒱 : Variants) (c : Dev nD) (bd : Option 𝒱.V) (i : grid0.Coords)
  (arg1 : Memref sig .tc .smem S1x1x2500 .i32) (harg1 : arg1.IsWhole) (arg2 : Memref sig .tc .vmem S50002x1x100 .f32) (harg2 : arg2.IsWhole)
  (arg3 : Memref sig .tc .vmem S9x100x50 .f32) (harg3 : arg3.IsWhole) (arg4 : Memref sig .tc .vmem S1x50 .f32) (harg4 : arg4.IsWhole)
  (arg5 : Memref sig .tc .vmem S1x2500x50 .bf16) (harg5 : arg5.IsWhole) (arg6 : Memref sig .tc .vmem S2508x1x100 .f32) (harg6 : arg6.IsWhole)

/-- The first call's body at one grid point: from a row of tokens all in the table, it leaves `convBlock` in its output
    block and its four inputs as they were. -/
theorem conv_body (E : Set ℕ) (X : S1x1x2500.Idx → BitVec 32) (T : S50002x1x100.Idx → F .f32) (W : S9x100x50.Idx → F .f32) (B : S1x50.Idx → F .f32)
    (O : S1x2500x50.Idx → F .bf16) (R : S2508x1x100.Idx → F .f32) (hX : TokOK X) (K : PUnit → sProp 𝕄) :
    iprop((owns (c : Thread nD τ) arg1 fullShare X ∗ owns (c : Thread nD τ) arg2 fullShare T ∗ owns (c : Thread nD τ) arg3 fullShare W
            ∗ owns (c : Thread nD τ) arg4 fullShare B ∗ owns (c : Thread nD τ) arg5 fullShare O ∗ owns (c : Thread nD τ) arg6 fullShare R)
          ∗ (iprop(owns (c : Thread nD τ) arg1 fullShare X ∗ owns (c : Thread nD τ) arg2 fullShare T ∗ owns (c : Thread nD τ) arg3 fullShare W
            ∗ owns (c : Thread nD τ) arg4 fullShare B ∗ owns (c : Thread nD τ) arg5 fullShare (convBlock X T W B) ∗ ∃ R', owns (c : Thread nD τ) arg6 fullShare R') -∗ K ⟨⟩))
      ⊢ wp frame (wpE (defs₀ (F := F)) 𝒱 (c : Thread nD τ) bd) E
          (cc0__conv_body (F := F) i arg1 harg1 arg2 harg2 arg3 harg3 arg4 harg4 arg5 harg5 arg6 harg6) K := by
  simp only [cc0__conv_body_eq_skeleton]
  unfold cc0__conv_body_skel owns
  iintro ⟨⟨⟨%f1, %e1, H1⟩, ⟨%f2, %e2, H2⟩, ⟨%f3, %e3, H3⟩, ⟨%f4, %e4, H4⟩, ⟨%f5, %e5, H5⟩, ⟨%f6, %e6, H6⟩⟩, Hk⟩
  subst e1 e2 e3 e4 e5 e6
  let I := gatherLoop (F := F) 𝒱 c bd i arg1 harg1 arg2 harg2 arg3 harg3 arg4 harg4 arg5 harg5 arg6 harg6 f1 f2 E hX
  have h0 := gathered_zero (F := F) arg6.view f6 (arg1.view.read (Elt F) f1) (arg2.view.read (Elt F) f2)
  sl_exec
  have ht : Scf.trips k0_t1_loop.lb k0_t1_loop.ub k0_t1_loop.st = 625 := by decide
  rw [ht] at hL3
  have he : arg6.view.readAt (Elt F) (Rect.unit (s := S2508x1x100) ![0, 0, 0] S2508x1x100.size inb_S2508x1x100_S2508x1x100_0_0_0).toLoadRect fL0
      = embRows (arg1.view.read (Elt F) f1) (arg2.view.read (Elt F) f2) := by
    rw [View.readAt_full]
    exact funext fun j => hL3 j (by omega)
  have hb : arg4.view.readAt (Elt F) (Rect.unit (s := S1x50) ![0, 0] S1x50.size inb_S1x50_S1x50_0_0).toLoadRect f4 = arg4.view.read (Elt F) f4 :=
    View.readAt_full _ _ _
  have hv : k0_pay1 (conv_body.sl.r_3 c arg3 arg4 arg6 f3 f4 fL0)
      = convBlock (arg1.view.read (Elt F) f1) (arg2.view.read (Elt F) f2) (arg3.view.read (Elt F) f3) (arg4.view.read (Elt F) f4) := by
    unfold convBlock
    rw [← he, ← hb]
    rfl
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]
  · iexists arg5.view.writes (Elt F) f5 [⟨Rect.unit (s := S1x2500x50) ![0, 0, 0] S1x2500x50.size inb_S1x2500x50_S1x2500x50_0_0_0,
      k0_pay1 (conv_body.sl.r_3 c arg3 arg4 arg6 f3 f4 fL0)⟩]
    isplitr
    · ipureintro
      exact (View.read_writes_full arg5.view f5 _ _ _).trans hv
    iexact H5
  iexists _; iexists fL0; isplitr; · ipureintro; rfl
  iexact H6

end Body

end Cert.Caml

end
-- ==== Proof.AttnBody.lean ====
module

public import proofs.«01_k».proof.Proof.Gen.KernelIdeal.Launch
public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.FrameBody
public import Idealize.ShloMosaic.Lib.ValueIdx
public import Idealize.ShloMosaic.Lib.WritesUnit
public import Idealize.ShloMosaic.Lib.VecWindow
public import Idealize.ShloMosaic.Lib.Pipeline.Value

@[expose] public section

noncomputable section

namespace Cert.Caml

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- One document's features. -/
def hRow (H : S8x2500x50.Idx → F .bf16) (b : Fin 8) : S1x2500x50.Idx → F .bf16 := fun y => H (ix3 b (y 1) (y 2))

/-- One document's labels in a block. -/
def tRow (T : S8x128.Idx → F .f32) (b : Fin 8) : S1x128.Idx → F .f32 := fun y => T (ix2 b (y 1))

/-- The attention block the second call leaves: per document, the softmax down the columns of the scores. -/
def alphaBlock (H : S8x2500x50.Idx → F .bf16) (U : S128x50.Idx → F .bf16) : S2500x8x128.Idx → F .f32 := fun j =>
  k1_pay8 U (hRow H (j 1)) (ix2 (j 0) (j 2))

/-- The block of label scores the second call leaves. -/
def yhatBlock (H : S8x2500x50.Idx → F .bf16) (U W : S128x50.Idx → F .bf16) (B : S1x128.Idx → F .f32) : S8x128.Idx → F .f32 := fun j =>
  k1_pay10 U W B (hRow H (j 0)) (ix2 0 (j 1))

/-- One document's contribution added to the loss of a block. -/
def lossStep (i : grid1.Coords) (H : S8x2500x50.Idx → F .bf16) (U W : S128x50.Idx → F .bf16) (B : S1x128.Idx → F .f32) (T : S8x128.Idx → F .f32)
    (b : Fin 8) (acc : FVec F S1x1 .f32) : FVec F S1x1 .f32 :=
  k1_pay11 (k1_pay5 i) acc (k1_pay10 U W B (hRow H b)) (tRow T b)

/-- The loss block the second call leaves: the eight documents' contributions added in order to zero. -/
def lossBlock (i : grid1.Coords) (H : S8x2500x50.Idx → F .bf16) (U W : S128x50.Idx → F .bf16) (B : S1x128.Idx → F .f32) (T : S8x128.Idx → F .f32) :
    S1x1x1.Idx → F .f32 :=
  shapeCast S1x1x1 (lossStep i H U W B T 7 (lossStep i H U W B T 6 (lossStep i H U W B T 5 (lossStep i H U W B T 4
    (lossStep i H U W B T 3 (lossStep i H U W B T 2 (lossStep i H U W B T 1 (lossStep i H U W B T 0 k1_pay6))))))))
    shapeCasts_S1x1_S1x1x1

/-- A load of one document's features. -/
theorem hRow_read {κ : Kind} {sp : Space} (v : View sig κ sp S8x2500x50 .bf16) (f : v.ty.Contents (Elt F)) {off : Fin 3 → ℕ}
    (inb : ∀ a, off a + S1x2500x50.size a ≤ S8x2500x50.size a) (b : Fin 8) (h : off = ![b.val, 0, 0]) :
    v.readAt (Elt F) (Rect.unit (s := S8x2500x50) off S1x2500x50.size inb).toLoadRect f = hRow (v.read (Elt F) f) b := by
  subst h
  funext y
  refine congrArg (v.read (Elt F) f) (funext fun a => Fin.ext ?_)
  have h0 : (y 0).val < 1 := (y 0).isLt
  match a with
  | ⟨0, _⟩ => show b.val + 1 * (y 0).val = b.val; omega
  | ⟨1, _⟩ => show 0 + 1 * (y 1).val = (y 1).val; omega
  | ⟨2, _⟩ => show 0 + 1 * (y 2).val = (y 2).val; omega

/-- A load of one document's labels. -/
theorem tRow_read {κ : Kind} {sp : Space} (v : View sig κ sp S8x128 .f32) (f : v.ty.Contents (Elt F)) {off : Fin 2 → ℕ}
    (inb : ∀ a, off a + S1x128.size a ≤ S8x128.size a) (b : Fin 8) (h : off = ![b.val, 0]) :
    v.readAt (Elt F) (Rect.unit (s := S8x128) off S1x128.size inb).toLoadRect f = tRow (v.read (Elt F) f) b := by
  subst h
  funext y
  refine congrArg (v.read (Elt F) f) (funext fun a => Fin.ext ?_)
  have h0 : (y 0).val < 1 := (y 0).isLt
  match a with
  | ⟨0, _⟩ => show b.val + 1 * (y 0).val = b.val; omega
  | ⟨1, _⟩ => show 0 + 1 * (y 1).val = (y 1).val; omega

/-- The reshape that gives the attention a unit axis keeps its two coordinates. -/
theorem cast_alpha {α : Type} (w : S2500x128.Idx → α) (l : Fin 2500) (z : Fin 1) (y : Fin 128) :
    shapeCast S2500x1x128 w shapeCasts_S2500x128_S2500x1x128 (ix3 l z y) = w (ix2 l y) :=
  shapeCast_apply w _ _ _ (by
    rw [Shape.rowMajor_val_two, Shape.rowMajor_val_three]
    show l.val * 128 + y.val = (l.val * 1 + z.val) * 128 + y.val
    omega)

/-- Storing document `n`'s attention, on top of the attention of the documents before it. -/
theorem alpha_cons {κ : Kind} {sp : Space} (v : View sig κ sp S2500x8x128 .f32) (f : v.ty.Contents (Elt F))
    (G : S2500x8x128.Idx → F .f32) {off : Fin 3 → ℕ} (inb : ∀ a, off a + S2500x1x128.size a ≤ S2500x8x128.size a)
    (n : Fin 8) (h : off = ![0, n.val, 0]) (w : S2500x1x128.Idx → F .f32)
    (hw : ∀ (l : Fin 2500) (y : Fin 128), w (ix3 l 0 y) = G (ix3 l n y)) (L : List (View.Piece (Elt F) S2500x8x128 .f32))
    (hL : ∀ j : S2500x8x128.Idx, (j 1).val < n.val → v.read (Elt F) (v.writes (Elt F) f L) j = G j) :
    ∀ j : S2500x8x128.Idx, (j 1).val < n.val + 1 →
      v.read (Elt F) (v.writes (Elt F) f (⟨Rect.unit (s := S2500x8x128) off S2500x1x128.size inb, w⟩ :: L)) j = G j := by
  intro j hj
  by_cases hr : (j 1).val = n.val
  · rw [View.read_writes_cons_unit_of_mem v f inb w L j (ix3 (j 0) (0 : Fin 1) (j 2)) h (fun a => by
      match a with
      | ⟨0, _⟩ => show (j 0).val = 0 + (j 0).val; omega
      | ⟨1, _⟩ => show (j 1).val = n.val + 0; omega
      | ⟨2, _⟩ => show (j 2).val = 0 + (j 2).val; omega)]
    have e : j 1 = n := Fin.ext hr
    refine (hw (j 0) (j 2)).trans (congrArg G ?_)
    rw [eq_ix3 j]; exact congrArg (fun b => ix3 (j 0) b (j 2)) e.symm
  · rw [View.read_writes_cons_unit_of_not_mem v f inb w L j h 1 (by
      show (j 1).val < n.val ∨ n.val + 1 ≤ (j 1).val; omega)]
    exact hL j (by omega)

/-- Storing document `n`'s label scores, on top of those of the documents before it. -/
theorem yhat_cons {κ : Kind} {sp : Space} (v : View sig κ sp S8x128 .f32) (f : v.ty.Contents (Elt F))
    (G : S8x128.Idx → F .f32) {off : Fin 2 → ℕ} (inb : ∀ a, off a + S1x128.size a ≤ S8x128.size a)
    (n : Fin 8) (h : off = ![n.val, 0]) (w : S1x128.Idx → F .f32)
    (hw : ∀ (y : Fin 128), w (ix2 0 y) = G (ix2 n y)) (L : List (View.Piece (Elt F) S8x128 .f32))
    (hL : ∀ j : S8x128.Idx, (j 0).val < n.val → v.read (Elt F) (v.writes (Elt F) f L) j = G j) :
    ∀ j : S8x128.Idx, (j 0).val < n.val + 1 →
      v.read (Elt F) (v.writes (Elt F) f (⟨Rect.unit (s := S8x128) off S1x128.size inb, w⟩ :: L)) j = G j := by
  intro j hj
  by_cases hr : (j 0).val = n.val
  · rw [View.read_writes_cons_unit_of_mem v f inb w L j (ix2 (0 : Fin 1) (j 1)) h (fun a => by
      match a with
      | ⟨0, _⟩ => show (j 0).val = n.val + 0; omega
      | ⟨1, _⟩ => show (j 1).val = 0 + (j 1).val; omega)]
    have e : j 0 = n := Fin.ext hr
    refine (hw (j 1)).trans (congrArg G ?_)
    rw [eq_ix2 j]; exact congrArg (fun b => ix2 b (j 1)) e.symm
  · rw [View.read_writes_cons_unit_of_not_mem v f inb w L j h 0 (by
      show (j 0).val < n.val ∨ n.val + 1 ≤ (j 0).val; omega)]
    exact hL j (by omega)

/-- A resource at a witness, with a fact about the witness, closes an existential that asks for both. -/
theorem ex_pure_intro {α : Type} (P : α → sProp 𝕄) (φ : α → Prop) (f : α) : iprop(P f ∗ ⌜φ f⌝) ⊢ iprop(∃ f, ⌜φ f⌝ ∗ P f) := by
  iintro ⟨H, %h⟩
  iexists f
  isplitr
  · ipureintro; exact h
  · iexact H

/-- The attention a document's store writes is its slab of the block. -/
theorem alpha_slab (H : S8x2500x50.Idx → F .bf16) (U U' : S128x50.Idx → F .bf16) (n : Fin 8) (h : S1x2500x50.Idx → F .bf16)
    (hU : U' = U) (hh : h = hRow H n) (l : Fin 2500) (y : Fin 128) :
    shapeCast S2500x1x128 (k1_pay8 U' h) shapeCasts_S2500x128_S2500x1x128 (ix3 l 0 y) = alphaBlock H U (ix3 l n y) := by
  subst hU hh
  exact cast_alpha _ l 0 y

/-- The label scores a document's store writes are its row of the block. -/
theorem yhat_slab (H : S8x2500x50.Idx → F .bf16) (U U' W W' : S128x50.Idx → F .bf16) (B B' : S1x128.Idx → F .f32) (n : Fin 8)
    (h : S1x2500x50.Idx → F .bf16) (hU : U' = U) (hW : W' = W) (hB : B' = B) (hh : h = hRow H n) (y : Fin 128) :
    k1_pay10 U' W' B' h (ix2 0 y) = yhatBlock H U W B (ix2 n y) := by
  subst hU hW hB hh
  rfl

section Body

variable (𝒱 : Variants) (c : Dev nD) (bd : Option 𝒱.V) (i : grid1.Coords)
  (arg1 : Memref sig .tc .vmem S8x2500x50 .bf16) (harg1 : arg1.IsWhole) (arg2 : Memref sig .tc .vmem S128x50 .bf16) (harg2 : arg2.IsWhole)
  (arg3 : Memref sig .tc .vmem S128x50 .bf16) (harg3 : arg3.IsWhole) (arg4 : Memref sig .tc .vmem S1x128 .f32) (harg4 : arg4.IsWhole)
  (arg5 : Memref sig .tc .vmem S8x128 .f32) (harg5 : arg5.IsWhole) (arg6 : Memref sig .tc .vmem S2500x8x128 .f32) (harg6 : arg6.IsWhole)
  (arg7 : Memref sig .tc .vmem S8x128 .f32) (harg7 : arg7.IsWhole) (arg8 : Memref sig .tc .vmem S1x1x1 .f32) (harg8 : arg8.IsWhole)

/-- The second call's body at one grid point. -/
theorem attn_body (E : Set ℕ) (H : S8x2500x50.Idx → F .bf16) (U W : S128x50.Idx → F .bf16) (B : S1x128.Idx → F .f32) (T : S8x128.Idx → F .f32)
    (O6 : S2500x8x128.Idx → F .f32) (O7 : S8x128.Idx → F .f32) (O8 : S1x1x1.Idx → F .f32) (K : PUnit → sProp 𝕄) :
    iprop((owns (c : Thread nD τ) arg1 fullShare H ∗ owns (c : Thread nD τ) arg2 fullShare U ∗ owns (c : Thread nD τ) arg3 fullShare W
            ∗ owns (c : Thread nD τ) arg4 fullShare B ∗ owns (c : Thread nD τ) arg5 fullShare T ∗ owns (c : Thread nD τ) arg6 fullShare O6
            ∗ owns (c : Thread nD τ) arg7 fullShare O7 ∗ owns (c : Thread nD τ) arg8 fullShare O8)
          ∗ (iprop(owns (c : Thread nD τ) arg1 fullShare H ∗ owns (c : Thread nD τ) arg2 fullShare U ∗ owns (c : Thread nD τ) arg3 fullShare W
            ∗ owns (c : Thread nD τ) arg4 fullShare B ∗ owns (c : Thread nD τ) arg5 fullShare T ∗ owns (c : Thread nD τ) arg6 fullShare (alphaBlock H U)
            ∗ owns (c : Thread nD τ) arg7 fullShare (yhatBlock H U W B) ∗ owns (c : Thread nD τ) arg8 fullShare (lossBlock i H U W B T)) -∗ K ⟨⟩))
      ⊢ wp frame (wpE (defs₀ (F := F)) 𝒱 (c : Thread nD τ) bd) E
          (cc1__attn_body (F := F) i arg1 harg1 arg2 harg2 arg3 harg3 arg4 harg4 arg5 harg5 arg6 harg6 arg7 harg7 arg8 harg8) K := by
  simp only [cc1__attn_body_eq_skeleton]
  unfold cc1__attn_body_skel owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, Hk⟩
  subst e1 e2 e3 e4 e5 e6 e7 e8
  sl_exec
  have hU : arg2.view.readAt (Elt F) (Rect.unit (s := S128x50) ![0, 0] S128x50.size inb_S128x50_S128x50_0_0).toLoadRect f2 = arg2.view.read (Elt F) f2 :=
    View.readAt_full _ _ _
  have hW : arg3.view.readAt (Elt F) (Rect.unit (s := S128x50) ![0, 0] S128x50.size inb_S128x50_S128x50_0_0).toLoadRect f3 = arg3.view.read (Elt F) f3 :=
    View.readAt_full _ _ _
  have hB : arg4.view.readAt (Elt F) (Rect.unit (s := S1x128) ![0, 0] S1x128.size inb_S1x128_S1x128_0_0).toLoadRect f4 = arg4.view.read (Elt F) f4 :=
    View.readAt_full _ _ _
  have hv : k1_pay1 (k1_pay5 i) (attn_body.sl.r_23 c i arg1 arg2 arg3 arg4 arg5 f1 f2 f3 f4 f5) (attn_body.sl.r_24 c arg1 arg2 arg3 arg4 arg5 f1 f2 f3 f4 f5)
      = lossBlock i (arg1.view.read (Elt F) f1) (arg2.view.read (Elt F) f2) (arg3.view.read (Elt F) f3) (arg4.view.read (Elt F) f4) (arg5.view.read (Elt F) f5) := by
    unfold lossBlock lossStep
    rw [← hRow_read arg1.view f1 inb_S8x2500x50_S1x2500x50_0_0_0 0 rfl, ← tRow_read arg5.view f5 inb_S8x128_S1x128_0_0 0 rfl, ← hRow_read arg1.view f1 inb_S8x2500x50_S1x2500x50_1_0_0 1 rfl, ← tRow_read arg5.view f5 inb_S8x128_S1x128_1_0 1 rfl, ← hRow_read arg1.view f1 inb_S8x2500x50_S1x2500x50_2_0_0 2 rfl, ← tRow_read arg5.view f5 inb_S8x128_S1x128_2_0 2 rfl, ← hRow_read arg1.view f1 inb_S8x2500x50_S1x2500x50_3_0_0 3 rfl, ← tRow_read arg5.view f5 inb_S8x128_S1x128_3_0 3 rfl, ← hRow_read arg1.view f1 inb_S8x2500x50_S1x2500x50_4_0_0 4 rfl, ← tRow_read arg5.view f5 inb_S8x128_S1x128_4_0 4 rfl, ← hRow_read arg1.view f1 inb_S8x2500x50_S1x2500x50_5_0_0 5 rfl, ← tRow_read arg5.view f5 inb_S8x128_S1x128_5_0 5 rfl, ← hRow_read arg1.view f1 inb_S8x2500x50_S1x2500x50_6_0_0 6 rfl, ← tRow_read arg5.view f5 inb_S8x128_S1x128_6_0 6 rfl, ← hRow_read arg1.view f1 inb_S8x2500x50_S1x2500x50_7_0_0 7 rfl, ← tRow_read arg5.view f5 inb_S8x128_S1x128_7_0 7 rfl, ← hU, ← hW, ← hB]
    rfl
  sl_step
  iapply Hk
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]
  · iapply (ex_pure_intro _ _ _)
    isplitl [H6]; · iexact H6
    ipureintro
    refine funext fun j => ?_
    revert j
    suffices hs : ∀ j : S2500x8x128.Idx, (j 1).val < 7 + 1 → _ from fun j => hs j (j 1).isLt
    refine alpha_cons arg6.view f6 _ inb_S2500x8x128_S2500x1x128_0_7_0 7 rfl _ (fun l y => alpha_slab _ _ _ 7 _ hU (hRow_read arg1.view f1 inb_S8x2500x50_S1x2500x50_7_0_0 7 rfl) l y) _ ?_
    refine alpha_cons arg6.view f6 _ inb_S2500x8x128_S2500x1x128_0_6_0 6 rfl _ (fun l y => alpha_slab _ _ _ 6 _ hU (hRow_read arg1.view f1 inb_S8x2500x50_S1x2500x50_6_0_0 6 rfl) l y) _ ?_
    refine alpha_cons arg6.view f6 _ inb_S2500x8x128_S2500x1x128_0_5_0 5 rfl _ (fun l y => alpha_slab _ _ _ 5 _ hU (hRow_read arg1.view f1 inb_S8x2500x50_S1x2500x50_5_0_0 5 rfl) l y) _ ?_
    refine alpha_cons arg6.view f6 _ inb_S2500x8x128_S2500x1x128_0_4_0 4 rfl _ (fun l y => alpha_slab _ _ _ 4 _ hU (hRow_read arg1.view f1 inb_S8x2500x50_S1x2500x50_4_0_0 4 rfl) l y) _ ?_
    refine alpha_cons arg6.view f6 _ inb_S2500x8x128_S2500x1x128_0_3_0 3 rfl _ (fun l y => alpha_slab _ _ _ 3 _ hU (hRow_read arg1.view f1 inb_S8x2500x50_S1x2500x50_3_0_0 3 rfl) l y) _ ?_
    refine alpha_cons arg6.view f6 _ inb_S2500x8x128_S2500x1x128_0_2_0 2 rfl _ (fun l y => alpha_slab _ _ _ 2 _ hU (hRow_read arg1.view f1 inb_S8x2500x50_S1x2500x50_2_0_0 2 rfl) l y) _ ?_
    refine alpha_cons arg6.view f6 _ inb_S2500x8x128_S2500x1x128_0_1_0 1 rfl _ (fun l y => alpha_slab _ _ _ 1 _ hU (hRow_read arg1.view f1 inb_S8x2500x50_S1x2500x50_1_0_0 1 rfl) l y) _ ?_
    refine alpha_cons arg6.view f6 _ inb_S2500x8x128_S2500x1x128_0_0_0 0 rfl _ (fun l y => alpha_slab _ _ _ 0 _ hU (hRow_read arg1.view f1 inb_S8x2500x50_S1x2500x50_0_0_0 0 rfl) l y) _ ?_
    exact fun j hj => absurd hj (Nat.not_lt_zero _)
  isplitl [H7]
  · iapply (ex_pure_intro _ _ _)
    isplitl [H7]; · iexact H7
    ipureintro
    refine funext fun j => ?_
    revert j
    suffices hs : ∀ j : S8x128.Idx, (j 0).val < 7 + 1 → _ from fun j => hs j (j 0).isLt
    refine yhat_cons arg7.view f7 _ inb_S8x128_S1x128_7_0 7 rfl _ (fun y => yhat_slab _ _ _ _ _ _ _ 7 _ hU hW hB (hRow_read arg1.view f1 inb_S8x2500x50_S1x2500x50_7_0_0 7 rfl) y) _ ?_
    refine yhat_cons arg7.view f7 _ inb_S8x128_S1x128_6_0 6 rfl _ (fun y => yhat_slab _ _ _ _ _ _ _ 6 _ hU hW hB (hRow_read arg1.view f1 inb_S8x2500x50_S1x2500x50_6_0_0 6 rfl) y) _ ?_
    refine yhat_cons arg7.view f7 _ inb_S8x128_S1x128_5_0 5 rfl _ (fun y => yhat_slab _ _ _ _ _ _ _ 5 _ hU hW hB (hRow_read arg1.view f1 inb_S8x2500x50_S1x2500x50_5_0_0 5 rfl) y) _ ?_
    refine yhat_cons arg7.view f7 _ inb_S8x128_S1x128_4_0 4 rfl _ (fun y => yhat_slab _ _ _ _ _ _ _ 4 _ hU hW hB (hRow_read arg1.view f1 inb_S8x2500x50_S1x2500x50_4_0_0 4 rfl) y) _ ?_
    refine yhat_cons arg7.view f7 _ inb_S8x128_S1x128_3_0 3 rfl _ (fun y => yhat_slab _ _ _ _ _ _ _ 3 _ hU hW hB (hRow_read arg1.view f1 inb_S8x2500x50_S1x2500x50_3_0_0 3 rfl) y) _ ?_
    refine yhat_cons arg7.view f7 _ inb_S8x128_S1x128_2_0 2 rfl _ (fun y => yhat_slab _ _ _ _ _ _ _ 2 _ hU hW hB (hRow_read arg1.view f1 inb_S8x2500x50_S1x2500x50_2_0_0 2 rfl) y) _ ?_
    refine yhat_cons arg7.view f7 _ inb_S8x128_S1x128_1_0 1 rfl _ (fun y => yhat_slab _ _ _ _ _ _ _ 1 _ hU hW hB (hRow_read arg1.view f1 inb_S8x2500x50_S1x2500x50_1_0_0 1 rfl) y) _ ?_
    refine yhat_cons arg7.view f7 _ inb_S8x128_S1x128_0_0 0 rfl _ (fun y => yhat_slab _ _ _ _ _ _ _ 0 _ hU hW hB (hRow_read arg1.view f1 inb_S8x2500x50_S1x2500x50_0_0_0 0 rfl) y) _ ?_
    exact fun j hj => absurd hj (Nat.not_lt_zero _)
  iapply (ex_pure_intro _ _ _)
  isplitl [H8]; · iexact H8
  ipureintro
  exact (View.read_writes_full arg8.view f8 _ _ _).trans hv

end Body

end Cert.Caml
-- ==== Proof.Calls.lean ====
module

public import proofs.«01_k».proof.Proof.ConvBody
public import proofs.«01_k».proof.Proof.AttnBody
public import proofs.«01_k».proof.Proof.Gen.KernelIdeal.Points
public import proofs.«01_k».proof.Proof.Gen.KernelIdeal.Regions
public import Idealize.ShloMosaic.Lib.Pipeline.RegionArraysF
public import Idealize.ShloMosaic.Lib.Pipeline.RegionsOwned

@[expose] public section

noncomputable section

namespace Cert.Caml

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

/-! ## The first call -/

/-- The row of tokens the first call finds at a grid point. -/
abbrev xBlk (V : Valuation τ sig (Elt F)) (t : Fin cfg0.N) : (cfg0.win 0).block.Idx → Elt F (cfg0.win 0).elt :=
  ((cfg0.win 0).blk t).view.read (Elt F) (V main_v1)
/-- The embedding table the first call finds. -/
abbrev tabBlk (V : Valuation τ sig (Elt F)) (t : Fin cfg0.N) : (cfg0.win 1).block.Idx → Elt F (cfg0.win 1).elt :=
  ((cfg0.win 1).blk t).view.read (Elt F) (V main_v2)
/-- The convolution weights the first call finds. -/
abbrev wBlk (V : Valuation τ sig (Elt F)) (t : Fin cfg0.N) : (cfg0.win 2).block.Idx → Elt F (cfg0.win 2).elt :=
  ((cfg0.win 2).blk t).view.read (Elt F) (V main_v0)
/-- The convolution bias the first call finds. -/
abbrev bBlk (V : Valuation τ sig (Elt F)) (t : Fin cfg0.N) : (cfg0.win 3).block.Idx → Elt F (cfg0.win 3).elt :=
  ((cfg0.win 3).blk t).view.read (Elt F) (V main_v3)

/-- The first call's invariant between points: its scratch and the buffers of the other call at some contents, the
    generator register. -/
def conv_inv (c : Dev nD) : sProp 𝕄 :=
  iprop(Pipeline.scopedRest (Ix := Unit) (Name := ℕ) (U := UR sig nD τ) (Lvl := ℕ) (Val := Elt F) spec0 c ∗ ∃ r, prngReg c r)

/-- The proof data of the first call entered at the buffers `V`: every input block stays, the output block is
    `convBlock` of them. -/
def dat0 (V : Valuation τ sig (Elt F)) (c : Dev nD) : Dat τ (Elt F) Unit ℕ (UR sig nD τ) ℕ cfg0 c where
  A w := V (Proc.devRef .tc (Pipeline.arrRef spec0 w))
  after w t := match w with
    | ⟨0, _⟩ => xBlk V t
    | ⟨1, _⟩ => tabBlk V t
    | ⟨2, _⟩ => wBlk V t
    | ⟨3, _⟩ => bBlk V t
    | ⟨4, _⟩ => convBlock (xBlk V t) (tabBlk V t) (wBlk V t) (bBlk V t)
  Φ _ := conv_inv c
  q _ := fullShare
  owed _ := 0

/-- Each input of the first call is found as its block of the array. -/
theorem conv_before (V : Valuation τ sig (Elt F)) (c : Dev nD) (t : Fin cfg0.N) :
    (∀ d, (dat0 V c).before 0 t d = xBlk V t) ∧ (∀ d, (dat0 V c).before 1 t d = tabBlk V t)
      ∧ (∀ d, (dat0 V c).before 2 t d = wBlk V t) ∧ (∀ d, (dat0 V c).before 3 t d = bBlk V t) := by
  refine ⟨fun d => ?_, fun d => ?_, fun d => ?_, fun d => ?_⟩
  · exact (Dat.before_in_eq_fetched _ 0 rfl (fun _ => rfl) (fun _ _ _ => rfl) (fun _ => rfl) t d).trans rfl
  · exact (Dat.before_in_eq_fetched _ 1 rfl (fun _ => rfl) (fun _ _ _ => rfl) (fun _ => rfl) t d).trans rfl
  · exact (Dat.before_in_eq_fetched _ 2 rfl (fun _ => rfl) (fun _ _ _ => rfl) (fun _ => rfl) t d).trans rfl
  · exact (Dat.before_in_eq_fetched _ 3 rfl (fun _ => rfl) (fun _ _ _ => rfl) (fun _ => rfl) t d).trans rfl

/-- The first call's body meets its proof data, if the tokens are in the table. -/
theorem conv_obligation (V : Valuation τ sig (Elt F)) (c : Dev nD) (hX : ∀ j, (V main_v1 j : BitVec 32).toNat < 50002) :
    BodyObligationLoose (dat0 V c) (defs₀ (F := F)) Variants.none () Set.univ := fun t => by
  obtain ⟨h0, h1, h2, h3⟩ := conv_before V c t
  rw [bigSep_W0, bigSep_W0]
  simp only [h0, h1, h2, h3]
  rw [show (dat0 V c).Φ t.castSucc = conv_inv c from rfl, show (dat0 V c).Φ t.succ = conv_inv c from rfl,
    show (dat0 V c).owesAt () t.succ = (dat0 V c).owesAt () t.castSucc from rfl]
  unfold conv_inv
  rw [scopedRest0_eq]
  iintro ⟨⟨⟨⟨%f, Hs⟩, Hr⟩, Hp⟩, Ho, ⟨%d0, H0⟩, ⟨%d1, H1⟩, ⟨%d2, H2⟩, ⟨%d3, H3⟩, ⟨%d4, H4⟩⟩
  iapply (conv_body (F := F) Variants.none c none (grid0.coords t) _ _ _ _ _ _ _ _ _ _ (Memref.whole cc0_scratch0) _ Set.univ (xBlk V t) (tabBlk V t) (wBlk V t) (bBlk V t)
    ((dat0 V c).before 4 t d4) f (fun l => hX _) _)
  isplitl [H0 H1 H2 H3 H4 Hs]
  · isplitl [H0]; · iexact H0
    isplitl [H1]; · iexact H1
    isplitl [H2]; · iexact H2
    isplitl [H3]; · iexact H3
    isplitl [H4]; · iexact H4
    rw [owns_whole]; iexact Hs
  iintro ⟨H0, H1, H2, H3, H4, ⟨%R', Hs⟩⟩
  isplitl [Hs Hr Hp]
  · isplitl [Hs Hr]
    · isplitl [Hs]; · iexists R'; rw [← owns_whole]; iexact Hs
      iexact Hr
    iexact Hp
  isplitl [Ho]; · iexact Ho
  isplitl [H0]; · iexact H0
  isplitl [H1]; · iexact H1
  isplitl [H2]; · iexact H2
  isplitl [H3]; · iexact H3
  iexact H4

/-! ## The second call -/

/-- The convolved text the second call finds. -/
abbrev hBlk (V : Valuation τ sig (Elt F)) (t : Fin cfg1.N) : (cfg1.win 0).block.Idx → Elt F (cfg1.win 0).elt :=
  ((cfg1.win 0).blk t).view.read (Elt F) (V main_v4)
/-- The rows of the attention weights of one grid point, inside the array. -/
abbrev uCut (V : Valuation τ sig (Elt F)) (t : Fin cfg1.N) :=
  ((cfg1.win 1).blk t).view.read (Elt F) (V main_v5)
/-- The rows of the output weights of one grid point, inside the array. -/
abbrev fCut (V : Valuation τ sig (Elt F)) (t : Fin cfg1.N) :=
  ((cfg1.win 2).blk t).view.read (Elt F) (V main_v6)
/-- The output bias of one grid point, inside the array. -/
abbrev cCut (V : Valuation τ sig (Elt F)) (t : Fin cfg1.N) :=
  ((cfg1.win 3).blk t).view.read (Elt F) (V main_v7)
/-- The targets of one grid point, inside the array. -/
abbrev tCut (V : Valuation τ sig (Elt F)) (t : Fin cfg1.N) :=
  ((cfg1.win 4).blk t).view.read (Elt F) (V main_arg1)

/-- The block of attention weights on staging words `d` past the array's end. -/
def uBlk (V : Valuation τ sig (Elt F)) (t : Fin cfg1.N) (d : (cfg1.win 1).block.Idx → Elt F (cfg1.win 1).elt) :
    (cfg1.win 1).block.Idx → Elt F (cfg1.win 1).elt := (cfg1.win 1).fill (grid1.coords t) d (uCut V t)
/-- The block of output weights on staging words `d` past the array's end. -/
def fBlk (V : Valuation τ sig (Elt F)) (t : Fin cfg1.N) (d : (cfg1.win 2).block.Idx → Elt F (cfg1.win 2).elt) :
    (cfg1.win 2).block.Idx → Elt F (cfg1.win 2).elt := (cfg1.win 2).fill (grid1.coords t) d (fCut V t)
/-- The block of the output bias on staging words `d` past the array's end. -/
def cBlk (V : Valuation τ sig (Elt F)) (t : Fin cfg1.N) (d : (cfg1.win 3).block.Idx → Elt F (cfg1.win 3).elt) :
    (cfg1.win 3).block.Idx → Elt F (cfg1.win 3).elt := (cfg1.win 3).fill (grid1.coords t) d (cCut V t)
/-- The block of targets on staging words `d` past the array's end. -/
def tBlk (V : Valuation τ sig (Elt F)) (t : Fin cfg1.N) (d : (cfg1.win 4).block.Idx → Elt F (cfg1.win 4).elt) :
    (cfg1.win 4).block.Idx → Elt F (cfg1.win 4).elt := (cfg1.win 4).fill (grid1.coords t) d (tCut V t)

/-- The words written past the array's end where a block has to be named whole. -/
abbrev pad16 (F : FTy → Type) [FloatOps F] {S : Shape} : S.Idx → Elt F .bf16 := fun _ => Scalar.ofBits .bf16 0#16
/-- The same in the wider type. -/
abbrev pad32 (F : FTy → Type) [FloatOps F] {S : Shape} : S.Idx → Elt F .f32 := fun _ => Scalar.ofBits .f32 0#32

/-- The second call's invariant between points: the buffers of the other call at some contents, the generator
    register. -/
def attn_inv (c : Dev nD) : sProp 𝕄 :=
  iprop(Pipeline.scopedRest (Ix := Unit) (Name := ℕ) (U := UR sig nD τ) (Lvl := ℕ) (Val := Elt F) spec1 c ∗ ∃ r, prngReg c r)

/-- The proof data of the second call entered at the buffers `V`: every input block stays; the three output blocks are
    those of the input blocks. -/
def dat1 (V : Valuation τ sig (Elt F)) (c : Dev nD) : Dat τ (Elt F) Unit ℕ (UR sig nD τ) ℕ cfg1 c where
  A w := V (Proc.devRef .tc (Pipeline.arrRef spec1 w))
  after w t := match w with
    | ⟨0, _⟩ => hBlk V t
    | ⟨1, _⟩ => uBlk V t (pad16 F)
    | ⟨2, _⟩ => fBlk V t (pad16 F)
    | ⟨3, _⟩ => cBlk V t (pad32 F)
    | ⟨4, _⟩ => tBlk V t (pad32 F)
    | ⟨5, _⟩ => alphaBlock (hBlk V t) (uBlk V t (pad16 F))
    | ⟨6, _⟩ => yhatBlock (hBlk V t) (uBlk V t (pad16 F)) (fBlk V t (pad16 F)) (cBlk V t (pad32 F))
    | ⟨7, _⟩ => lossBlock (grid1.coords t) (hBlk V t) (uBlk V t (pad16 F)) (fBlk V t (pad16 F)) (cBlk V t (pad32 F)) (tBlk V t (pad32 F))
  Φ _ := attn_inv c
  q _ := fullShare
  owed _ := 0

/-- The windows of the second call nothing is said of: with `b`, its three outputs; without, none. -/
def fgOut (b : Bool) : Fin 8 → Bool
  | ⟨0, _⟩ => false
  | ⟨1, _⟩ => false
  | ⟨2, _⟩ => false
  | ⟨3, _⟩ => false
  | ⟨4, _⟩ => false
  | ⟨5, _⟩ => b
  | ⟨6, _⟩ => b
  | ⟨7, _⟩ => b

/-- Each input of the second call is found as its block of the array, past whose end anything lies. -/
theorem attn_before (V : Valuation τ sig (Elt F)) (c : Dev nD) (t : Fin cfg1.N) :
    (∀ d, (dat1 V c).before 0 t d = hBlk V t) ∧ (∀ d, (dat1 V c).before 1 t d = uBlk V t d)
      ∧ (∀ d, (dat1 V c).before 2 t d = fBlk V t d) ∧ (∀ d, (dat1 V c).before 3 t d = cBlk V t d)
      ∧ (∀ d, (dat1 V c).before 4 t d = tBlk V t d) := by
  refine ⟨fun d => ?_, fun d => ?_, fun d => ?_, fun d => ?_, fun d => ?_⟩
  · exact (Dat.before_in_eq_fetched _ 0 rfl (fun _ => rfl) (fun _ _ _ => rfl) (fun _ => rfl) t d).trans rfl
  · exact ((dat1 V c).before_fetched 1 t (fetch1_1 t) d).trans rfl
  · exact ((dat1 V c).before_fetched 2 t (fetch1_2 t) d).trans rfl
  · exact ((dat1 V c).before_fetched 3 t (fetch1_3 t) d).trans rfl
  · exact ((dat1 V c).before_fetched 4 t (fetch1_4 t) d).trans rfl

/-- What the second call's body leaves in a clipped input is what it found there. -/
theorem attn_keep (V : Valuation τ sig (Elt F)) (c : Dev nD) (t : Fin cfg1.N) :
    (∀ d, (cfg1.win 1).fill (grid1.coords t) d ((cfg1.win 1).cut (grid1.coords t) ((dat1 V c).after 1 t)) = uBlk V t d)
      ∧ (∀ d, (cfg1.win 2).fill (grid1.coords t) d ((cfg1.win 2).cut (grid1.coords t) ((dat1 V c).after 2 t)) = fBlk V t d)
      ∧ (∀ d, (cfg1.win 3).fill (grid1.coords t) d ((cfg1.win 3).cut (grid1.coords t) ((dat1 V c).after 3 t)) = cBlk V t d)
      ∧ (∀ d, (cfg1.win 4).fill (grid1.coords t) d ((cfg1.win 4).cut (grid1.coords t) ((dat1 V c).after 4 t)) = tBlk V t d) := by
  refine ⟨fun d => ?_, fun d => ?_, fun d => ?_, fun d => ?_⟩
  · exact congrArg _ ((cfg1.win 1).cut_fill (grid1.coords t) (pad16 F) (uCut V t))
  · exact congrArg _ ((cfg1.win 2).cut_fill (grid1.coords t) (pad16 F) (fCut V t))
  · exact congrArg _ ((cfg1.win 3).cut_fill (grid1.coords t) (pad32 F) (cCut V t))
  · exact congrArg _ ((cfg1.win 4).cut_fill (grid1.coords t) (pad32 F) (tCut V t))

/-- The second call's body meets its proof data as far as they speak of the inputs, its outputs forgotten. -/
theorem attn_obligation_forget (V : Valuation τ sig (Elt F)) (c : Dev nD) :
    BodyObligationLoose (dat1 V c) (defs₀ (F := F)) Variants.none () Set.univ (fgOut true) := fun t => by
  obtain ⟨h0, h1, h2, h3, h4⟩ := attn_before V c t
  obtain ⟨k1, k2, k3, k4⟩ := attn_keep V c t
  rw [bigSep_W1, bigSep_W1]
  simp only [h0, h1, h2, h3, h4, fgOut]
  rw [show (dat1 V c).Φ t.castSucc = attn_inv c from rfl, show (dat1 V c).Φ t.succ = attn_inv c from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (attn_body (F := F) Variants.none c none (grid1.coords t) _ _ _ _ _ _ _ _ _ _ _ _ _ _ _ _ Set.univ
    (hBlk V t) (uBlk V t d1) (fBlk V t d2) (cBlk V t d3) (tBlk V t d4) d5 d6 d7 _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Ho]; · iexact Ho
  isplitl [H0]; · iexact H0
  isplitl [H1]; · iexists d1; change _ ⊢ owns _ _ _ ((cfg1.win 1).fill (grid1.coords t) d1 ((cfg1.win 1).cut (grid1.coords t) ((dat1 V c).after 1 t))); rw [k1]
  isplitl [H2]; · iexists d2; change _ ⊢ owns _ _ _ ((cfg1.win 2).fill (grid1.coords t) d2 ((cfg1.win 2).cut (grid1.coords t) ((dat1 V c).after 2 t))); rw [k2]
  isplitl [H3]; · iexists d3; change _ ⊢ owns _ _ _ ((cfg1.win 3).fill (grid1.coords t) d3 ((cfg1.win 3).cut (grid1.coords t) ((dat1 V c).after 3 t))); rw [k3]
  isplitl [H4]; · iexists d4; change _ ⊢ owns _ _ _ ((cfg1.win 4).fill (grid1.coords t) d4 ((cfg1.win 4).cut (grid1.coords t) ((dat1 V c).after 4 t))); rw [k4]
  isplitl [H5]; · iexists _; iexact H5
  isplitl [H6]; · iexists _; iexact H6
  iexists _; iexact H7

end Cert.Caml

end
-- ==== Proof.Run.lean ====
module

public import proofs.«01_k».proof.Proof.Calls

@[expose] public section

noncomputable section

namespace Cert.Caml

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligationLoose HostSeg)
open Idealize.ShloMosaic.Pipeline.RDat (Seg RegionSeg)

variable {F : FTy → Type} [FloatOps F]

local notation "𝕄" => MT nD τ sig Unit (Elt F) ℕ (UR sig nD τ) ℕ

/-- The rounds of the two pipelines are the user algebra itself. -/
def ER : Emb (UR sig nD τ) 𝕄 :=
  (Emb.refl _).trans (uEmb (nD := nD) (sig := sig) (Ix := Unit) (Val := Elt F) (Name := ℕ) (U := UR sig nD τ) (Lvl := ℕ)).toEmb

instance : (ER (F := F)).LandsIn (upEmb : UEmb _ 𝕄) := by unfold ER; infer_instance

/-- The launch's ghost: both pipelines' rounds at their start. -/
def u₀ : UR sig nD τ := initOf (Pipeline.cells cfgs cellOf_inj) (Pipeline.launchToks cfgs cellOf_inj)

/-- One level on each semaphore cell of a TensorCore. -/
def lvls : GSem nD τ sig → Finset Unit := fun g => if g.1.2 = .tc then {()} else ∅

variable (m : (ℓ : Loc nD τ sig) → Buf (Elt F) ℓ)

/-! ## The buffers between the items -/

/-- The unscoped buffers after the first call. -/
def W2 (c : Dev nD) : Valuation τ sig (Elt F) :=
  Function.update (V1 m c) main_v4 ((dat0 (V1 m c) c).arrAt 4 cfg0.N)
/-- The unscoped buffers after the second stretch of host operations. -/
def W3 (c : Dev nD) : Valuation τ sig (Elt F) := StableHlo.after hostOps1 (W2 m c)

/-- Contents for the arrays of the second call's windows. -/
abbrev Arrs (c : Dev nD) : Type := (w : Fin cfg1.W) → Buf (Elt F) ((cfg1.win w).arr.view.loc (c.tc : Thread nD τ))

/-- The unscoped buffers after the second call: its outputs at what its proof data say or, forgotten, at `A`. -/
def W4 (b : Bool) (c : Dev nD) (A : Arrs (F := F) c) : Valuation τ sig (Elt F) :=
  Function.update (Function.update (Function.update (W3 m c)
    main_v8_0 (bif b then A 5 else (dat1 (W3 m c) c).arrAt 5 cfg1.N))
    main_v8_1 (bif b then A 6 else (dat1 (W3 m c) c).arrAt 6 cfg1.N))
    main_v8_2 (bif b then A 7 else (dat1 (W3 m c) c).arrAt 7 cfg1.N)

/-- The first call leaves every buffer but its output. -/
theorem W2_of (c : Dev nD) (r : Ref sig .tc) (h : r ≠ main_v4) : W2 m c r = V1 m c r := by
  unfold W2; exact Function.update_of_ne (StableHlo.devRef_ne_of_ne h) _ _
/-- The second host stretch leaves every buffer it does not write. -/
theorem W3_of (c : Dev nD) (r : Ref sig .tc) (h : r ∉ hostOps1_W) : W3 m c r = W2 m c r :=
  StableHlo.after_of_writes_sub hostOps1 _ hostOps1_writes h
/-- The second call leaves every buffer but its three outputs. -/
theorem W4_of (b : Bool) (c : Dev nD) (A : Arrs (F := F) c) (r : Ref sig .tc) (h0 : r ≠ main_v8_0) (h1 : r ≠ main_v8_1) (h2 : r ≠ main_v8_2) :
    W4 m b c A r = W3 m c r := by
  unfold W4
  rw [Function.update_of_ne (StableHlo.devRef_ne_of_ne h2), Function.update_of_ne (StableHlo.devRef_ne_of_ne h1),
    Function.update_of_ne (StableHlo.devRef_ne_of_ne h0)]

/-! ## The two calls' records -/

/-- Both calls' proof data. -/
def pdats : (p : Fin 2) → (c : Dev nD) → Dat τ (Elt F) Unit ℕ (UR sig nD τ) ℕ (cfgs p) c
  | ⟨0, _⟩, c => dat0 (V1 m c) c
  | ⟨1, _⟩, c => dat1 (W3 m c) c

/-- The windows forgotten: none of the first call's. -/
def fgs (b : Bool) : (p : Fin 2) → Fin (cfgs p).W → Bool
  | ⟨0, _⟩ => fun _ => false
  | ⟨1, _⟩ => fgOut b

/-- The TensorCore may wait on its own cells: nothing is owed. -/
theorem levelCut (p : Fin 2) : Pipeline.LevelCut (nD := nD) (τ := τ) (pcfgs (F := F)) adm () lvls (fun _ _ => (0 : ℕ)) p (fun _ => 0) (fun _ => 0) where
  hι c w s := by simp [lvls]
  hιb c w s := Nat.le_refl _
  hD c g i h := absurd h (by simp)

/-- What rides along the thread's buffers: the generator register, nothing owed. -/
abbrev rest (c : Dev nD) : sProp 𝕄 :=
  iprop((∃ r, prngReg c r) ∗ ∃ Wd, owes (c : Thread nD τ) (0 : CellTallies nD τ sig Unit) Wd)

/-- The pieces of an invariant made of the scoped buffers left and the generator register, as a region hands them in. -/
theorem inv_in {gr W : Nat} (spec : Fin W → Pipeline.WinSpec sig gr) (c : Dev nD) (X : sProp 𝕄) :
    iprop(Pipeline.scopedRest spec c ∗ (∃ r, prngReg c r) ∗ X) ⊢ (iprop(Pipeline.scopedRest spec c ∗ ∃ r, prngReg c r) : sProp 𝕄) := by
  iintro ⟨Hr, Hp, -⟩
  isplitl [Hr]; · iexact Hr
  iexact Hp

/-- The same as the region takes them back. -/
theorem inv_out {gr W : Nat} (spec : Fin W → Pipeline.WinSpec sig gr) (c : Dev nD)
    (f : Ref sig .tc → sProp 𝕄) (g : Ref sig .tc → sProp 𝕄) :
    (iprop(Pipeline.scopedRest spec c ∗ ∃ r, prngReg c r) : sProp 𝕄)
      ⊢ iprop(Pipeline.scopedRest spec c ∗ (∃ r, prngReg c r) ∗ Pipeline.ownSems0 (fun k : PEmpty => k.elim) c ∗ bigSep ∅ f ∗ bigSep ∅ g) := by
  rw [Pipeline.ownSems0_none, bigSep_empty, bigSep_empty]
  iintro ⟨Hr, Hp⟩
  isplitl [Hr]; · iexact Hr
  isplitl [Hp]; · iexact Hp
  isplitr; · iempintro
  isplitr; · iempintro
  iempintro

/-- With nothing owed, waiting on one's own cells is free. -/
theorem may_wait (X : sProp 𝕄) (c : Dev nD) : X ⊢ Transfers.MayWaits (c : Thread nD τ) () (0 : CellTallies nD τ sig Unit) := by
  have h := Transfers.MayWaits.zero (sig := sig) (Val := Elt F) (Name := ℕ) (U := UR sig nD τ) (Lvl := ℕ) (c : Thread nD τ) ()
  iintro -
  iapply h
  iempintro

/-- A reference that is no window's array of the first call is not its output. -/
theorem W2_rest (c : Dev nD) (d : DevRef τ sig) (hd : d ∉ Pipeline.arrRefs (τ := τ) spec0) : W2 m c d = V1 m c d := by
  unfold W2
  refine Function.update_of_ne (fun h => hd ?_) _ _
  rw [h]; decide

/-- A reference that is no window's array of the second call is none of its outputs. -/
theorem W4_rest (b : Bool) (c : Dev nD) (A : Arrs (F := F) c) (d : DevRef τ sig) (hd : d ∉ Pipeline.arrRefs (τ := τ) spec1) : W4 m b c A d = W3 m c d := by
  unfold W4
  rw [Function.update_of_ne, Function.update_of_ne, Function.update_of_ne] <;>
    (intro h; refine hd ?_; rw [h]; decide)

/-- After the first call each of its arrays holds what its proof data say. -/
theorem W2_arr (c : Dev nD) (w : Fin cfg0.W) : (dat0 (V1 m c) c).arrAt w cfg0.N = W2 m c (Proc.devRef .tc (Pipeline.arrRef spec0 w)) := by
  fin_cases w
  · exact ((dat0 (V1 m c) c).arrAt_in (0 : Fin 5) rfl _).trans (W2_of m c main_v1 (by decide)).symm
  · exact ((dat0 (V1 m c) c).arrAt_in (1 : Fin 5) rfl _).trans (W2_of m c main_v2 (by decide)).symm
  · exact ((dat0 (V1 m c) c).arrAt_in (2 : Fin 5) rfl _).trans (W2_of m c main_v0 (by decide)).symm
  · exact ((dat0 (V1 m c) c).arrAt_in (3 : Fin 5) rfl _).trans (W2_of m c main_v3 (by decide)).symm
  · have h : (dat0 (V1 m c) c).arrAt (4 : Fin 5) cfg0.N = W2 m c main_v4 := by
      unfold W2; rw [Function.update_self]
    exact h

/-- The three outputs after the second call. -/
theorem W4_out (b : Bool) (c : Dev nD) (A : Arrs (F := F) c) :
    W4 m b c A main_v8_0 = (bif b then A 5 else (dat1 (W3 m c) c).arrAt 5 cfg1.N)
      ∧ W4 m b c A main_v8_1 = (bif b then A 6 else (dat1 (W3 m c) c).arrAt 6 cfg1.N)
      ∧ W4 m b c A main_v8_2 = (bif b then A 7 else (dat1 (W3 m c) c).arrAt 7 cfg1.N) := by
  unfold W4
  refine ⟨?_, ?_, ?_⟩
  · rw [Function.update_of_ne (StableHlo.devRef_ne_of_ne (by decide)), Function.update_of_ne (StableHlo.devRef_ne_of_ne (by decide)), Function.update_self]
  · rw [Function.update_of_ne (StableHlo.devRef_ne_of_ne (by decide)), Function.update_self]
  · rw [Function.update_self]

/-- An output at what the proof data say, or, forgotten, at `A`. -/
theorem out_arr (b : Bool) (c : Dev nD) (A : Arrs (F := F) c) (hA : ∀ w, fgOut b w = false → A w = (dat1 (W3 m c) c).arrAt w cfg1.N)
    (w : Fin cfg1.W) (hw : b = false → fgOut b w = false) : A w = (bif b then A w else (dat1 (W3 m c) c).arrAt w cfg1.N) := by
  cases b
  · exact hA w (hw rfl)
  · rfl

/-- After the second call each of its arrays holds what its proof data say, an output forgotten what `A` says. -/
theorem W4_arr (b : Bool) (c : Dev nD) (A : Arrs (F := F) c) (hA : ∀ w, fgOut b w = false → A w = (dat1 (W3 m c) c).arrAt w cfg1.N)
    (w : Fin cfg1.W) : A w = W4 m b c A (Proc.devRef .tc (Pipeline.arrRef spec1 w)) := by
  fin_cases w
  · exact (hA (0 : Fin 8) rfl).trans (((dat1 (W3 m c) c).arrAt_in (0 : Fin 8) rfl _).trans (W4_of m b c A main_v4 (by decide) (by decide) (by decide)).symm)
  · exact (hA (1 : Fin 8) rfl).trans (((dat1 (W3 m c) c).arrAt_in (1 : Fin 8) rfl _).trans (W4_of m b c A main_v5 (by decide) (by decide) (by decide)).symm)
  · exact (hA (2 : Fin 8) rfl).trans (((dat1 (W3 m c) c).arrAt_in (2 : Fin 8) rfl _).trans (W4_of m b c A main_v6 (by decide) (by decide) (by decide)).symm)
  · exact (hA (3 : Fin 8) rfl).trans (((dat1 (W3 m c) c).arrAt_in (3 : Fin 8) rfl _).trans (W4_of m b c A main_v7 (by decide) (by decide) (by decide)).symm)
  · exact (hA (4 : Fin 8) rfl).trans (((dat1 (W3 m c) c).arrAt_in (4 : Fin 8) rfl _).trans (W4_of m b c A main_arg1 (by decide) (by decide) (by decide)).symm)
  · exact (out_arr m b c A hA 5 (fun h => by subst h; rfl)).trans (W4_out m b c A).1.symm
  · exact (out_arr m b c A hA 6 (fun h => by subst h; rfl)).trans (W4_out m b c A).2.1.symm
  · exact (out_arr m b c A hA 7 (fun h => by subst h; rfl)).trans (W4_out m b c A).2.2.symm

set_option backward.isDefEq.respectTransparency.types false in
/-- The first call's record. -/
def region0 (b : Bool) (hX : ∀ c j, (V1 m c main_v1 j : BitVec 32).toNat < 50002) :
    RegionSeg (pcfgs (F := F)) adm (Pipeline.toRsF (pcfgs (F := F)) adm (pdats m) (fgs b)) () defs₀ Variants.none lvls (fun _ _ => (0 : ℕ)) 0 :=
  Pipeline.RDat.RegionSeg.ofHeldF (pcfgs (F := F)) adm (pdats m) () defs₀ Variants.none lvls (fun _ _ => (0 : ℕ)) 0 (fun _ => 0) (fgs b)
    () (fun k : PEmpty => k.elim) (Pipeline.OwnSemFacts.none _) ∅ ∅ (Pipeline.ucRefs τ sig \ Pipeline.arrRefs spec0) (by simp [Pipeline.hbmRefs]) (by simp [Pipeline.hbmRefs])
    launch0.toP rfl (fun c => conv_obligation (V1 m c) c (hX c)) (fun _ _ => rfl) (fun _ => rfl) (fun c => Dat.share_full _ (fun _ => rfl))
    (fun c => may_wait _ c)
    (V1 m) (fun c _ _ => W2 m c)
    (fun c A g hA w => (hA w rfl).trans (W2_arr m c w))
    (fun _ _ _ _ h => absurd h (Finset.notMem_empty _))
    (fun c A g d hd => W2_rest m c d (fun h => (Finset.mem_sdiff.mp (Finset.mem_sdiff.mp (Finset.mem_sdiff.mp hd).1).1).2 h))
    (fun _ _ _ _ h => absurd h (by simp [Pipeline.hbmRefs]))
    (fun c => inv_in spec0 c _) (fun c => inv_out spec0 c _ _) (fun _ => 0) (levelCut 0) (fun _ => iprop(emp)) (fun _ _ => rfl)

set_option backward.isDefEq.respectTransparency.types false in
/-- The second call's record, from its body's obligation. -/
def region1 (b : Bool) (hbody : ∀ c, BodyObligationLoose (dat1 (W3 m c) c) (defs₀ (F := F)) Variants.none () Set.univ (fgOut b)) :
    RegionSeg (pcfgs (F := F)) adm (Pipeline.toRsF (pcfgs (F := F)) adm (pdats m) (fgs b)) () defs₀ Variants.none lvls (fun _ _ => (0 : ℕ)) 1 :=
  Pipeline.RDat.RegionSeg.ofHeldF (pcfgs (F := F)) adm (pdats m) () defs₀ Variants.none lvls (fun _ _ => (0 : ℕ)) 1 (fun _ => 0) (fgs b)
    () (fun k : PEmpty => k.elim) (Pipeline.OwnSemFacts.none _) ∅ ∅ (Pipeline.ucRefs τ sig \ Pipeline.arrRefs spec1) (by simp [Pipeline.hbmRefs]) (by simp [Pipeline.hbmRefs])
    launch1.toP rfl hbody (fun _ _ => rfl) (fun _ => rfl) (fun c => Dat.share_full _ (fun _ => rfl))
    (fun c => may_wait _ c)
    (W3 m) (fun c A _ => W4 m b c A)
    (fun c A g hA w => W4_arr m b c A hA w)
    (fun _ _ _ _ h => absurd h (Finset.notMem_empty _))
    (fun c A g d hd => W4_rest m b c A d (fun h => (Finset.mem_sdiff.mp (Finset.mem_sdiff.mp (Finset.mem_sdiff.mp hd).1).1).2 h))
    (fun _ _ _ _ h => absurd h (by simp [Pipeline.hbmRefs]))
    (fun c => inv_in spec1 c _) (fun c => inv_out spec1 c _ _) (fun _ => 0) (levelCut 1) (fun _ => iprop(emp)) (fun _ _ => rfl)

/-! ## The run -/

/-- The unscoped buffers at the end. -/
def W5 (b : Bool) (c : Dev nD) (A : Arrs (F := F) c) : Valuation τ sig (Elt F) := StableHlo.after hostOps2 (W4 m b c A)

/-- The last host stretch leaves every buffer it does not write. -/
theorem W5_of (b : Bool) (c : Dev nD) (A : Arrs (F := F) c) (r : Ref sig .tc) (h : r ∉ hostOps2_W) : W5 m b c A r = W4 m b c A r :=
  StableHlo.after_of_writes_sub hostOps2 _ hostOps2_writes h

/-- A stretch of host operations as a segment from the buffers at `V`. -/
def hostSeg (ops : List (HloOp τ sig (Elt F))) (hs : ∀ op ∈ ops, op.bufs ⊆ Pipeline.ucRefs τ sig) (hf : ∀ op ∈ ops, op.fresh = ∅)
    (V : Dev nD → Valuation τ sig (Elt F)) :
    HostSeg (Ix := Unit) (Name := ℕ) (U := UR sig nD τ) (Lvl := ℕ) (pcfgs (F := F)) defs₀ Variants.none lvls (fun _ _ => (0 : ℕ)) :=
  HostSeg.ofOps _ _ _ _ _ (Pipeline.ucRefs τ sig) ops hs hf V rest

/-- The last stretch, from the buffers at `W4` for some contents of the forgotten outputs. -/
def hostSegEx (b : Bool) :
    HostSeg (Ix := Unit) (Name := ℕ) (U := UR sig nD τ) (Lvl := ℕ) (pcfgs (F := F)) defs₀ Variants.none lvls (fun _ _ => (0 : ℕ)) :=
  HostSeg.ofOpsEx _ _ _ _ _ (Γ := fun c => Arrs (F := F) c) (Pipeline.ucRefs τ sig) hostOps2
    (fun op h => Pipeline.sub_ucRefs op ((List.forall_iff_forall_mem.mp hostOps2_sub) op h))
    (fun op h => (List.forall_iff_forall_mem.mp hostOps2_fresh) op h) (W4 m b) rest

/-- The main program as segments. -/
def segs (b : Bool) (hX : ∀ c j, (V1 m c main_v1 j : BitVec 32).toNat < 50002)
    (hbody : ∀ c, BodyObligationLoose (dat1 (W3 m c) c) (defs₀ (F := F)) Variants.none () Set.univ (fgOut b)) :
    List (Seg (pcfgs (F := F)) adm (Pipeline.toRsF (pcfgs (F := F)) adm (pdats m) (fgs b)) () defs₀ Variants.none lvls (fun _ _ => (0 : ℕ))) :=
  [.host (hostSeg hostOps0 (fun op h => Pipeline.sub_ucRefs op ((List.forall_iff_forall_mem.mp hostOps0_sub) op h))
      (fun op h => (List.forall_iff_forall_mem.mp hostOps0_fresh) op h) (V0 m)),
    .region (region0 m b hX),
    .host (hostSeg hostOps1 (fun op h => Pipeline.sub_ucRefs op ((List.forall_iff_forall_mem.mp hostOps1_sub) op h))
      (fun op h => (List.forall_iff_forall_mem.mp hostOps1_fresh) op h) (W2 m)),
    .region (region1 m b hbody),
    .host (hostSegEx m b)]

/-- The unscoped buffers as a call's arrays and the others, as its record takes them. -/
theorem enter {gr W : Nat} (spec : Fin W → Pipeline.WinSpec sig gr) (hs : Pipeline.arrRefs (τ := τ) spec ⊆ Pipeline.ucRefs τ sig) (c : Dev nD) (V : Valuation τ sig (Elt F)) :
    iprop(StableHlo.held (c : Thread nD τ) (Pipeline.ucRefs τ sig) V ∗ rest c)
      ⊢ (iprop(StableHlo.held (c.tc : Thread nD τ) (Pipeline.arrRefs spec) V ∗ (∃ r, prngReg c r)
        ∗ (StableHlo.held (c.tc : Thread nD τ) (Pipeline.ucRefs τ sig \ Pipeline.arrRefs spec) V ∗ emp) ∗ ∃ Wd, owes (c : Thread nD τ) (0 : CellTallies nD τ sig Unit) Wd) : sProp 𝕄) := by
  rw [StableHlo.held_sub_split (c.tc : Thread nD τ) hs V]
  iintro ⟨⟨Ha, Hr⟩, Hp, Ho⟩
  isplitl [Ha]; · iexact Ha
  isplitl [Hp]; · iexact Hp
  isplitl [Hr]
  · isplitl [Hr]; · iexact Hr
    iempintro
  iexact Ho

/-- The same as its record gives them back. -/
theorem leave {gr W : Nat} (spec : Fin W → Pipeline.WinSpec sig gr) (hs : Pipeline.arrRefs (τ := τ) spec ⊆ Pipeline.ucRefs τ sig) (c : Dev nD)
    {ΓA Γg : Type} (V : ΓA → Γg → Valuation τ sig (Elt F)) (V' : ΓA → Valuation τ sig (Elt F)) (hV : ∀ A g, V A g = V' A) :
    (iprop(∃ A g, StableHlo.held (c.tc : Thread nD τ) (Pipeline.arrRefs spec) (V A g) ∗ (∃ r, prngReg c r)
        ∗ (StableHlo.held (c.tc : Thread nD τ) (Pipeline.ucRefs τ sig \ Pipeline.arrRefs spec) (V A g) ∗ emp) ∗ ∃ Wd, owes (c : Thread nD τ) (0 : CellTallies nD τ sig Unit) Wd) : sProp 𝕄)
      ⊢ iprop((∃ A, StableHlo.held (c : Thread nD τ) (Pipeline.ucRefs τ sig) (V' A)) ∗ rest c) := by
  iintro ⟨%A, %g, Ha, Hp, ⟨Hr, -⟩, Ho⟩
  rw [hV A g]
  isplitl [Ha Hr]
  · iexists A
    rw [StableHlo.held_sub_split (c.tc : Thread nD τ) hs (V' A)]
    isplitl [Ha]; · iexact Ha
    iexact Hr
  isplitl [Hp]; · iexact Hp
  iexact Ho

/-- Contents said to be one thing are that thing. -/
theorem ex_const (c : Dev nD) {Γ : Type} (V : Valuation τ sig (Elt F)) :
    iprop((∃ _ : Γ, StableHlo.held (c : Thread nD τ) (Pipeline.ucRefs τ sig) V) ∗ rest c)
      ⊢ (iprop(StableHlo.held (c : Thread nD τ) (Pipeline.ucRefs τ sig) V ∗ rest c) : sProp 𝕄) := by
  iintro ⟨⟨%A, Ha⟩, Hp⟩
  isplitl [Ha]; · iexact Ha
  iexact Hp

theorem arrRefs0_sub : Pipeline.arrRefs (τ := τ) spec0 ⊆ Pipeline.ucRefs τ sig := Pipeline.arrRefs_sub_ucRefs spec0 (by decide)
theorem arrRefs1_sub : Pipeline.arrRefs (τ := τ) spec1 ⊆ Pipeline.ucRefs τ sig := Pipeline.arrRefs_sub_ucRefs spec1 (by decide)

set_option backward.isDefEq.respectTransparency.types false in
/-- Every fair run of the kernel's program from tokens in the table ends with every semaphore at zero and every unscoped
    buffer at `W5`, for some contents of the outputs forgotten; given the second call's body meets its proof data. -/
theorem run (ρ : Dev nD → PrngReg) (b : Bool) (hX : ∀ c j, (V1 m c main_v1 j : BitVec 32).toNat < 50002)
    (hbody : ∀ c, BodyObligationLoose (dat1 (W3 m c) c) (defs₀ (F := F)) Variants.none () Set.univ (fgOut b)) :
    θ_run defs (onTc (τ := τ) (main (F := F))) ⟨m, fun _ => 0, ρ⟩ (fun r => (∀ c : Dev nD, ∃ A : Arrs (F := F) c,
      ∀ d ∈ Pipeline.ucRefs τ sig, r.2.mem (c, d) = W5 m b c A d) ∧ r.2.sem = fun _ => 0) := by
  refine Pipeline.RDat.θ_run_regions_kit_dev_sems (pcfgs (F := F)) adm (Pipeline.toRsF (pcfgs (F := F)) adm (pdats m) (fgs b)) () cellOf_inj (ER (F := F))
    defs₀ Variants.none lvls (fun _ _ => (0 : ℕ)) m ρ main (fun _ => segs m b hX hbody)
    (fun c Q => by
      rewrite [main_chain c, Seg.run_eq_chain,
        show (segs m b hX hbody).map Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, Seg.pipes_host, Seg.pipes_region, Seg.pipes_nil]; decide) (fun _ => 0)
    (fun g hg => by simp [lvls, hg]) (fun _ => iprop(emp)) u₀ ?_
    (T₀ := fun c => iprop(StableHlo.held (c : Thread nD τ) (Pipeline.ucRefs τ sig) (V0 m c) ∗ rest c))
    (Tₙ := fun c => iprop(∃ A, StableHlo.held (c : Thread nD τ) (Pipeline.ucRefs τ sig) (W5 m b c A)))
    (hch := fun c => ⟨.rfl, enter spec0 arrRefs0_sub c (V1 m c), (leave spec0 arrRefs0_sub c _ (fun _ => W2 m c) (fun _ _ => rfl)).trans (ex_const c _),
      enter spec1 arrRefs1_sub c (W3 m c), leave spec1 arrRefs1_sub c _ (W4 m b c) (fun _ _ => rfl), ?_⟩)
    (hinit := ?_) (QY := fun c s => ∃ A : Arrs (F := F) c, ∀ d ∈ Pipeline.ucRefs τ sig, s.mem (c, d) = W5 m b c A d)
    (hfin := fun c s' => ?_) (hQ := fun _ h hz => ⟨h, funext fun g => hz g (.inr (regions_no_unscoped g.2))⟩)
  · have h : (ownU u₀ : sProp 𝕄) ⊢ BI.own ((ER (F := F)) (initOf (Pipeline.cells cfgs cellOf_inj) (Pipeline.launchToks cfgs cellOf_inj))) := BI.Entails.refl _
    iintro H
    ihave H' := h $$ H
    imodintro
    isplitl [H']; · iexact H'
    have he : (BI.emp : sProp 𝕄) ⊢ bigSep Finset.univ fun _ : Dev nD => (BI.emp : sProp 𝕄) := by rw [bigSep_emp_const]
    iapply he; iempintro
  · show iprop((∃ A, StableHlo.held (c : Thread nD τ) (Pipeline.ucRefs τ sig) (W5 m b c A)) ∗ rest c) ⊢ iprop((∃ A, StableHlo.held (c : Thread nD τ) (Pipeline.ucRefs τ sig) (W5 m b c A))
      ∗ ∃ W, owes (c.tc : Thread nD τ) (0 : CellTallies nD τ sig Unit) W)
    iintro ⟨H, -, Ho⟩
    isplitl [H]; · iexact H
    iexact Ho
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (V0 m c) ∗ rest c) : sProp 𝕄) := by
      refine bigSep_mono fun c _ => ?_
      rw [← Pipeline.unscopedBufs_held (Ix := Unit) (Name := ℕ) (U := UR sig nD τ) (Lvl := ℕ) c (V0 m c)]
      show iprop((unscopedBufs c fun b => m (c.tc.loc b)) ∗ unscopedSems0 c ∗ owes c.tc 0 ∅ ∗ Pipeline.launchCred (fun x => 0) c ∗ prngReg c (ρ c) ∗ emp)
        ⊢ iprop((unscopedBufs c fun b => m (c.tc.loc b)) ∗ rest c)
      iintro ⟨H, -, Ho, -, Hp, -⟩
      isplitl [H]; · iexact H
      isplitl [Hp]; · iexists _; iexact Hp
      iexists _; iexact Ho
    iintro ⟨H, -⟩
    imodintro
    iapply hsplit $$ H
  · unfold StableHlo.held
    iintro ⟨⟨%A, Hh⟩, HSI⟩
    ihave Hr := (pointsTo_read_all (Pipeline.ucRefs τ sig) (fun b => ((c : Thread nD τ).1, b)) (W5 m b c A) s') $$ [Hh HSI]
    · isplitl [Hh] <;> iassumption
    icases Hr with ⟨%h, HSI⟩
    imodintro
    isplitr
    · ipureintro
      exact ⟨A, h⟩
    · iexact HSI

/-- The buffer of a reference among the unscoped ones. -/
theorem mem_uc (r : Ref sig .tc) (h : r.isScoped = false) : (Proc.devRef .tc r : DevRef τ sig) ∈ Pipeline.ucRefs τ sig :=
  Finset.mem_filter.mpr ⟨StableHlo.devRef_mem_tcRefs r, fun h' => Bool.false_ne_true (h.symm.trans h')⟩

/-- An argument ends as launched. -/
theorem W5_arg (b : Bool) (c : Dev nD) (A : Arrs (F := F) c) (r : Ref sig .tc) (h0 : r ∉ hostOps0_W) (h1 : r ∉ hostOps1_W) (h2 : r ∉ hostOps2_W)
    (h3 : r ≠ main_v4) (h4 : r ≠ main_v8_0) (h5 : r ≠ main_v8_1) (h6 : r ≠ main_v8_2) : W5 m b c A r = m ((c : Thread nD τ).loc r) :=
  (W5_of m b c A r h2).trans <| (W4_of m b c A r h4 h5 h6).trans <| (W3_of m c r h1).trans <| (W2_of m c r h3).trans <| V1_of m c r h0

end Cert.Caml

end
-- ==== Proof.Frames.lean ====
module

public import proofs.«01_k».proof.Proof.Run
public import proofs.«01_k».proof.Proof.Gen.Kernel.Launch
public import Idealize.ShloMosaic.PureOps.BitExact

@[expose] public section

noncomputable section

namespace Cert.Caml

open Cert.KernelIdeal Cert.KernelIdeal.Gen
open Idealize.ShloMosaic Idealize.ShloMosaic.TcCoe
open Idealize.ShloMosaic.ValueIdx
open Idealize.SL.Sem

variable {F : FTy → Type} [FloatOps F]

/-- The tokens as the first call finds them are the program's argument in another shape. -/
theorem V1_tokens (m : (ℓ : Loc nD τ sig) → Buf (Elt F) ℓ) (c : Dev nD)
    (h : ∀ i : S8x2500.Idx, (m ((c : Thread nD τ).loc main_arg0) i : BitVec 32).toNat < 50002) (j) :
    (V1 m c main_v1 j : BitVec 32).toNat < 50002 := by
  have e : (V1 m c main_v1 : IVec S8x1x2500 32) = shapeCast S8x1x2500 (m ((c : Thread nD τ).loc main_arg0)) shapeCasts_S8x2500_S8x1x2500 := rfl
  rw [show V1 m c main_v1 j = shapeCast S8x1x2500 (m ((c : Thread nD τ).loc main_arg0)) shapeCasts_S8x2500_S8x1x2500 j from congrFun e j]
  exact h _

/-- Every fair run of the kernel's program from tokens in the table ends with its arguments unchanged and every semaphore
    at zero. -/
theorem frame (m : (ℓ : Loc nD τ sig) → Buf (Elt F) ℓ) (ρ : Dev nD → PrngReg)
    (h : ∀ (c : Dev nD) (i : S8x2500.Idx), (m ((c : Thread nD τ).loc main_arg0) i : BitVec 32).toNat < 50002) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) := by
  refine (θ_run (defs (F := F)) _ _).mono (fun r hr => ⟨fun c => ?_, hr.2⟩)
    (run m ρ true (fun c => V1_tokens m c (h c)) fun c => attn_obligation_forget (W3 m c) c)
  obtain ⟨A, hA⟩ := hr.1 c
  have key (r' : Ref sig .tc) (hs : r'.isScoped = false) (h0 : r' ∉ hostOps0_W) (h1 : r' ∉ hostOps1_W) (h2 : r' ∉ hostOps2_W)
      (h3 : r' ≠ main_v4) (h4 : r' ≠ main_v8_0) (h5 : r' ≠ main_v8_1) (h6 : r' ≠ main_v8_2) :
      r.2.mem ((c : Thread nD τ).loc r') = m ((c : Thread nD τ).loc r') :=
    (hA _ (mem_uc r' hs)).trans (W5_arg m true c A r' h0 h1 h2 h3 h4 h5 h6)
  exact ⟨key main_arg0 rfl (by decide) (by decide) (by decide) (by decide) (by decide) (by decide) (by decide),
    key main_arg1 rfl (by decide) (by decide) (by decide) (by decide) (by decide) (by decide) (by decide),
    key main_arg2 rfl (by decide) (by decide) (by decide) (by decide) (by decide) (by decide) (by decide),
    key main_arg3 rfl (by decide) (by decide) (by decide) (by decide) (by decide) (by decide) (by decide),
    key main_arg4 rfl (by decide) (by decide) (by decide) (by decide) (by decide) (by decide) (by decide),
    key main_arg5 rfl (by decide) (by decide) (by decide) (by decide) (by decide) (by decide) (by decide),
    key main_arg6 rfl (by decide) (by decide) (by decide) (by decide) (by decide) (by decide) (by decide),
    key main_arg7 rfl (by decide) (by decide) (by decide) (by decide) (by decide) (by decide) (by decide)⟩

/-! ## The same program read for the bits

The two printed programs of the kernel are the same text at two kinds of float values, so a statement about the one at any
kind of float values is one about the other. -/

attribute [local instance] Cert.Kernel.Gen.facts

set_option maxHeartbeats 40000000 in
/-- The bodies of the two printed programs agree. -/
theorem kernel_defs₀ : (Cert.Kernel.defs₀ (F := F)) = Cert.KernelIdeal.defs₀ := by
  unfold Cert.Kernel.defs₀ Cert.KernelIdeal.defs₀
  congr 1
  funext a b
  fin_cases a
  · rfl
  · rfl

set_option maxHeartbeats 40000000 in
/-- The calls of the two printed programs agree. -/
theorem kernel_pcfgs : (Cert.Kernel.pcfgs (F := F)) = Cert.KernelIdeal.pcfgs := by
  funext p
  fin_cases p <;> rfl

set_option maxHeartbeats 40000000 in
/-- The main functions of the two printed programs agree. -/
theorem kernel_main : (Cert.Kernel.main (F := F)) = Cert.KernelIdeal.main := rfl

/-- Equal calls expand to equal definitions. -/
theorem defs_heq (p q : Fin 2 → Pipeline.PCfg sig Λ₀ (Elt F)) (h : p = q) (d : Defs nD τ sig (Elt F) Λ₀) :
    HEq (Pipeline.defs p d) (Pipeline.defs q d) := by
  subst h
  rfl

set_option maxHeartbeats 40000000 in
/-- The definitions of the two printed programs agree, the calls' expansions included. -/
theorem kernel_defs : (Cert.Kernel.defs (F := F)) = Cert.KernelIdeal.defs := by
  unfold Cert.Kernel.defs Cert.KernelIdeal.defs
  rw [kernel_defs₀]
  exact eq_of_heq (defs_heq _ _ kernel_pcfgs _)

set_option maxHeartbeats 40000000 in
/-- Every fair run of the kernel's program as printed for the bits, from tokens in the table, ends with its arguments
    unchanged and every semaphore at zero. -/
theorem kernel_frame (m : (ℓ : Loc Cert.Kernel.nD Cert.Kernel.τ Cert.Kernel.sig) → Buf (Elt F) ℓ) (ρ : Dev Cert.Kernel.nD → PrngReg)
    (h : ∀ (c : Dev Cert.Kernel.nD) (i : S8x2500.Idx), (m ((c : Thread nD τ).loc main_arg0) i : BitVec 32).toNat < 50002) :
    θ_run (Cert.Kernel.defs (F := F)) (onTc (τ := Cert.Kernel.τ) (Cert.Kernel.main (F := F))) ⟨m, fun _ => 0, ρ⟩ (fun r =>
      (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) := by
  have e := frame m ρ h
  rw [← kernel_defs, ← kernel_main] at e
  exact e

end Cert.Caml

end
-- ==== Proof.RefFrame.lean ====
module

public import proofs.«01_k».proof.Proof.Gen.ReferenceIdeal.Run
public import Idealize.ShloMosaic.Lib.Quiescent

@[expose] public section

noncomputable section

namespace Cert.Caml

open Cert.ReferenceIdeal
open Idealize.ShloMosaic Idealize.ShloMosaic.TcCoe Idealize.SL.Sem

attribute [local instance] Cert.ReferenceIdeal.Gen.facts

variable {F : FTy → Type} [FloatOps F]

/-- Every fair run of the reference ends with its arguments unchanged and every semaphore at zero. -/
theorem reference_frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) ∧ r.2.sem = fun _ => 0) :=
  (θ_run (defs (F := F)) _ _).mono (fun r hr => ⟨fun c => (hr c).2.2.2, sem_eq_zero_of_no_sems rfl _⟩)
    (Cert.ReferenceIdeal.Value.run m ρ)

end Cert.Caml

end
-- ==== Proof.Spec.lean ====
module

public import Idealize.ShloMosaic.PureOps.Ideal
public import Idealize.ShloMosaic.Lib.Pointwise

@[expose] public section

noncomputable section

namespace Cert.Caml

open Idealize.ShloMosaic

/-- One hidden feature: the nine taps of the convolution added in order to zero, the bias, then tanh. -/
def hid (e : Fin 2508 → Fin 100 → EReal) (w : Fin 9 → Fin 100 → EReal) (c : EReal) (l : Fin 2500) : EReal :=
  Ideal.tanh ((∑ d, e ⟨l.val, by omega⟩ d * w 0 d) + (∑ d, e ⟨1 + l.val, by omega⟩ d * w 1 d) + (∑ d, e ⟨2 + l.val, by omega⟩ d * w 2 d)
    + (∑ d, e ⟨3 + l.val, by omega⟩ d * w 3 d) + (∑ d, e ⟨4 + l.val, by omega⟩ d * w 4 d) + (∑ d, e ⟨5 + l.val, by omega⟩ d * w 5 d)
    + (∑ d, e ⟨6 + l.val, by omega⟩ d * w 6 d) + (∑ d, e ⟨7 + l.val, by omega⟩ d * w 7 d) + (∑ d, e ⟨8 + l.val, by omega⟩ d * w 8 d) + c)

/-- One label's scores over the positions. -/
def scores (h : Fin 2500 → Fin 50 → EReal) (u : Fin 50 → EReal) (l : Fin 2500) : EReal := ∑ f, h l f * u f

/-- The largest score. -/
def topScore (s : Fin 2500 → EReal) : EReal := Finset.univ.fold max ⊥ s

/-- The softmax of the scores. -/
def soft (s : Fin 2500 → EReal) (l : Fin 2500) : EReal :=
  Ideal.div (Ideal.exp (s l - topScore s)) (∑ l, Ideal.exp (s l - topScore s))

/-- One label's output, the weights applied before the sum over the positions. -/
def label (h : Fin 2500 → Fin 50 → EReal) (u w : Fin 50 → EReal) (c : EReal) : EReal :=
  (∑ l, soft (scores h u) l * ∑ f, h l f * w f) + c

/-- One label's loss. -/
def bce (y t : EReal) : EReal := max y 0 - y * t + Ideal.log1p (Ideal.exp (-max y (-y)))

/-- tanh is a real number everywhere. -/
theorem tanh_real (a : EReal) : ∃ r : ℝ, Ideal.tanh a = r := by
  induction a using EReal.rec with
  | bot => exact ⟨-1, by simp⟩
  | top => exact ⟨1, by simp⟩
  | coe r => exact ⟨Real.tanh r, rfl⟩

/-! ## The three results of the arguments -/

/-- A document's rows, four rows of zeros at either end: the table's row of each token. -/
def embed (X : IVec ⟨2, ![8, 2500]⟩ 32) (T : FVec Ideal ⟨2, ![50002, 100]⟩ .f32) (b : Fin 8) (r : Fin 2508) (d : Fin 100) : EReal :=
  if h : 4 ≤ r.val ∧ r.val - 4 < 2500 then T (ix2 ⟨min (X (ix2 b ⟨r.val - 4, h.2⟩)).toNat 50001, by omega⟩ d) else 0

/-- A document's hidden features. -/
def hiddenOf (X : IVec ⟨2, ![8, 2500]⟩ 32) (T : FVec Ideal ⟨2, ![50002, 100]⟩ .f32) (C : FVec Ideal ⟨3, ![50, 100, 9]⟩ .f32)
    (c : FVec Ideal ⟨1, ![50]⟩ .f32) (b : Fin 8) (l : Fin 2500) (f : Fin 50) : EReal :=
  hid (embed X T b) (fun k d => C (ix3 f d k)) (c (ix1 f)) l

/-- The attention weights of features `h` at the label vectors `U`. -/
def alphaOf (h : Fin 8 → Fin 2500 → Fin 50 → EReal) (U : FVec Ideal ⟨2, ![8000, 50]⟩ .f32) : FVec Ideal ⟨3, ![8, 8000, 2500]⟩ .f32 :=
  fun i => soft (scores (h (i 0)) fun f => U (ix2 (i 1) f)) (i 2)

/-- The outputs. -/
def yhatOf (h : Fin 8 → Fin 2500 → Fin 50 → EReal) (U W : FVec Ideal ⟨2, ![8000, 50]⟩ .f32) (B : FVec Ideal ⟨1, ![8000]⟩ .f32) :
    FVec Ideal ⟨2, ![8, 8000]⟩ .f32 :=
  fun i => label (h (i 0)) (fun f => U (ix2 (i 1) f)) (fun f => W (ix2 (i 1) f)) (B (ix1 (i 1)))

/-- The mean loss of outputs `z` at targets `t`. -/
def lossOf (z t : FVec Ideal ⟨2, ![8, 8000]⟩ .f32) : FVec Ideal ⟨0, ![]⟩ .f32 :=
  fun _ => Ideal.div (∑ b : Fin 8, ∑ y : Fin 8000, bce (z (ix2 b y)) (t (ix2 b y))) (Ideal.ofBits .f32 0x477A0000#32)

/-- Hidden features are real. -/
theorem hiddenOf_real (X : IVec ⟨2, ![8, 2500]⟩ 32) (T : FVec Ideal ⟨2, ![50002, 100]⟩ .f32) (C : FVec Ideal ⟨3, ![50, 100, 9]⟩ .f32)
    (c : FVec Ideal ⟨1, ![50]⟩ .f32) (b : Fin 8) (l : Fin 2500) (f : Fin 50) : ∃ r : ℝ, hiddenOf X T C c b l f = r := tanh_real _

end Cert.Caml

end
-- ==== Proof.KVal.lean ====
module

public import proofs.«01_k».proof.Proof.Spec
public import proofs.«01_k».proof.Proof.Gen.KernelIdeal.Skeleton
public import Idealize.ShloMosaic.Lib.Pointwise
public import Idealize.ShloMosaic.Lib.WordCmp

@[expose] public section

noncomputable section

namespace Cert.Caml

open Cert.KernelIdeal Cert.KernelIdeal.Gen
open Idealize.ShloMosaic

/-- The pattern of minus infinity. -/
theorem ofBits_negInf : Ideal.ofBits .f32 0xFF800000#32 = ⊥ := by simp [Ideal.ofBits, Ideal.ieee]

/-- The kernel's softmax block at a position and a label. -/
theorem pay8_apply (U : FVec Ideal S128x50 .bf16) (H : FVec Ideal S1x2500x50 .bf16) (l : Fin 2500) (j : Fin 128) :
    k1_pay8 (F := Ideal) U H (ix2 l j) = soft (scores (fun l f => H (ix3 0 l f)) fun f => U (ix2 j f)) l := by
  pointwise [k1_pay8, k1_pay7, k1_pay2, soft, scores, topScore]
  rw [ofBits_negInf]

/-- The kernel's block of labels' outputs at a label. -/
theorem pay10_apply (U W : FVec Ideal S128x50 .bf16) (B : FVec Ideal S1x128 .f32) (H : FVec Ideal S1x2500x50 .bf16) (j : Fin 128) :
    k1_pay10 (F := Ideal) U W B H (ix2 0 j) = label (fun l f => H (ix3 0 l f)) (fun f => U (ix2 j f)) (fun f => W (ix2 j f)) (B (ix2 0 j)) := by
  pointwise [k1_pay10, k1_pay7, k1_pay3, k1_pay4, label, pay8_apply]

/-- What one document adds to a block's loss: the losses of its labels inside the array. -/
theorem pay11_apply (m : IVec S1x128 1) (acc : FVec Ideal S1x1 .f32) (y t : FVec Ideal S1x128 .f32) :
    k1_pay11 (F := Ideal) m acc y t (ix2 0 0) = acc (ix2 0 0) + ∑ j : Fin 128, if m (ix2 0 j) = 1#1 then bce (y (ix2 0 j)) (t (ix2 0 j)) else 0 := by
  pointwise [k1_pay11, bce]
  refine congrArg _ (Finset.sum_congr rfl fun j _ => ?_)
  unfold Scalar.select
  rw [zero_sub]
  rfl

/-- The kernel's mask of a block's labels inside the array. -/
theorem pay5_apply (i : grid1.Coords) (j : Fin 128) :
    k1_pay5 i (ix2 0 j) = 1#1 ↔ 128 * (i 0).val + j.val < 8000 := by
  pointwise [k1_pay5]
  have hi : (i 0).val < 63 := (i 0).isLt
  have hj := j.isLt
  have e : IntOp.addi (BitVec.ofNat 32 j.val) (Scalar.muli (BitVec.ofNat 32 (i 0).val) 128#32) = BitVec.ofNat 32 (128 * (i 0).val + j.val) := by
    show BitVec.ofNat 32 j.val + BitVec.ofNat 32 (i 0).val * 128#32 = _
    apply BitVec.eq_of_toNat_eq
    simp only [BitVec.toNat_add, BitVec.toNat_mul, BitVec.toNat_ofNat]
    omega
  rw [e]
  have e1 : (BitVec.ofNat 32 (128 * (i 0).val + j.val)).toInt = ((128 * (i 0).val + j.val : ℕ) : ℤ) := by
    rw [BitVec.toInt_eq_toNat_cond, BitVec.toNat_ofNat]
    have : (128 * (i 0).val + j.val) % 2 ^ 32 = 128 * (i 0).val + j.val := Nat.mod_eq_of_lt (by omega)
    rw [this, if_pos (by omega)]
  rw [WordCmp.cmpi_slt_eq, e1, show (8000#32).toInt = 8000 by decide]
  by_cases h : 128 * (i 0).val + j.val < 8000
  · rw [decide_eq_true (by exact_mod_cast h)]
    exact ⟨fun _ => h, fun _ => rfl⟩
  · rw [decide_eq_false (fun h' => h (by exact_mod_cast h'))]
    exact ⟨fun h' => absurd h' (by decide), fun h' => absurd h' h⟩

/-- The weight of a tap. -/
theorem tap_ld (W : S9x100x50.Idx → Elt Ideal .f32) (k : ℕ) (hk : k < 9) (inb : ∀ a, (![k, 0, 0] : Fin 3 → ℕ) a + S1x100x50.size a ≤ S9x100x50.size a)
    (d : Fin 100) (f : Fin 50) :
    View.ld (Val := Elt Ideal) (e' := .f32) W (Rect.unit (s := S9x100x50) ![k, 0, 0] S1x100x50.size inb) (ix3 0 d f) = W (ix3 ⟨k, hk⟩ d f) := by
  refine congrArg W (funext fun a => Fin.ext ?_)
  match a with
  | ⟨0, _⟩ => rfl
  | ⟨1, _⟩ => exact (Nat.zero_add _).trans (Nat.one_mul _)
  | ⟨2, _⟩ => exact (Nat.zero_add _).trans (Nat.one_mul _)

/-- The kernel's hidden features of a document at a position. -/
theorem hidden_apply (e : FVec Ideal S2508x1x100 .f32) (w0 w1 w2 w3 w4 w5 w6 w7 w8 : FVec Ideal S1x100x50 .f32) (B : FVec Ideal S1x50 .f32)
    (w : Fin 9 → Fin 100 → Fin 50 → EReal) (h0 : ∀ d f, w0 (ix3 0 d f) = w 0 d f) (h1 : ∀ d f, w1 (ix3 0 d f) = w 1 d f)
    (h2 : ∀ d f, w2 (ix3 0 d f) = w 2 d f) (h3 : ∀ d f, w3 (ix3 0 d f) = w 3 d f) (h4 : ∀ d f, w4 (ix3 0 d f) = w 4 d f)
    (h5 : ∀ d f, w5 (ix3 0 d f) = w 5 d f) (h6 : ∀ d f, w6 (ix3 0 d f) = w 6 d f) (h7 : ∀ d f, w7 (ix3 0 d f) = w 7 d f)
    (h8 : ∀ d f, w8 (ix3 0 d f) = w 8 d f) (l : Fin 2500) (f : Fin 50) :
    k0_pay1 (F := Ideal) (k0_pay11 (k0_pay8 e) (k0_pay9 e w0 w1 w2) (k0_pay10 e) w3 w4 w5 w6 w7 w8 B) (ix3 0 l f)
      = hid (fun r d => e (ix3 r 0 d)) (fun k d => w k d f) (B (ix2 0 f)) l := by
  pointwise [k0_pay1, k0_pay11, k0_pay9, k0_pay8, k0_pay10, hid]
  simp only [h0, h1, h2, h3, h4, h5, h6, h7, h8]

end Cert.Caml

end
-- ==== Proof.Blocks.lean ====
module

public import proofs.«01_k».proof.Proof.KVal
public import proofs.«01_k».proof.Proof.Calls
public import Idealize.ShloMosaic.Lib.Pointwise.IndexBridge
public import Idealize.ShloMosaic.Lib.Pipeline.ValueKit

@[expose] public section

noncomputable section

namespace Cert.Caml

open Cert.KernelIdeal Cert.KernelIdeal.Gen
open Idealize.ShloMosaic Idealize.ShloMosaic.TcCoe Idealize.SL
open Idealize.ShloMosaic.Pipeline (Dat)

/-! ## A block's results at an index -/

/-- The attention block at a position, a document and a label. -/
theorem alphaBlock_apply (H : FVec Ideal S8x2500x50 .bf16) (U : FVec Ideal S128x50 .bf16) (l : Fin 2500) (b : Fin 8) (j : Fin 128) :
    alphaBlock (F := Ideal) H U (ix3 l b j) = soft (scores (fun l f => H (ix3 b l f)) fun f => U (ix2 j f)) l := by
  have e : alphaBlock (F := Ideal) H U (ix3 l b j) = k1_pay8 (F := Ideal) U (hRow H b) (ix2 l j) := by
    rw [ix2_eq_valueIdx]; rfl
  rw [e, pay8_apply]
  simp only [hRow, ← ix3_eq_valueIdx]
  rfl

/-- The block of outputs at a document and a label. -/
theorem yhatBlock_apply (H : FVec Ideal S8x2500x50 .bf16) (U W : FVec Ideal S128x50 .bf16) (B : FVec Ideal S1x128 .f32) (b : Fin 8) (j : Fin 128) :
    yhatBlock (F := Ideal) H U W B (ix2 b j)
      = label (fun l f => H (ix3 b l f)) (fun f => U (ix2 j f)) (fun f => W (ix2 j f)) (B (ix2 0 j)) := by
  have e : yhatBlock (F := Ideal) H U W B (ix2 b j) = k1_pay10 (F := Ideal) U W B (hRow H b) (ix2 0 j) := by
    rw [ix2_eq_valueIdx (0 : Fin 1) j]; rfl
  rw [e, pay10_apply]
  simp only [hRow, ← ix3_eq_valueIdx]
  rfl

/-- What one document adds to a block's loss. -/
theorem lossStep_apply (i : grid1.Coords) (H : FVec Ideal S8x2500x50 .bf16) (U W : FVec Ideal S128x50 .bf16) (B : FVec Ideal S1x128 .f32)
    (T : FVec Ideal S8x128 .f32) (b : Fin 8) (acc : FVec Ideal S1x1 .f32) :
    lossStep (F := Ideal) i H U W B T b acc (ix2 0 0)
      = acc (ix2 0 0) + ∑ j : Fin 128, if 128 * (i 0).val + j.val < 8000 then bce (yhatBlock (F := Ideal) H U W B (ix2 b j)) (T (ix2 b j)) else 0 := by
  refine (pay11_apply _ _ _ _).trans (congrArg _ (Finset.sum_congr rfl fun j _ => ?_))
  refine (if_congr (pay5_apply i j) ?_ rfl)
  have e : yhatBlock (F := Ideal) H U W B (ix2 b j) = k1_pay10 (F := Ideal) U W B (hRow H b) (ix2 0 j) := by
    rw [ix2_eq_valueIdx (0 : Fin 1) j]; rfl
  rw [e]
  refine congrArg _ ?_
  rw [ix2_eq_valueIdx b j]
  rfl

/-- A block's loss: the losses of its labels inside the array, summed over the documents. -/
theorem lossBlock_apply (i : grid1.Coords) (H : FVec Ideal S8x2500x50 .bf16) (U W : FVec Ideal S128x50 .bf16) (B : FVec Ideal S1x128 .f32)
    (T : FVec Ideal S8x128 .f32) (k : S1x1x1.Idx) :
    lossBlock (F := Ideal) i H U W B T k
      = ∑ b : Fin 8, ∑ j : Fin 128, if 128 * (i 0).val + j.val < 8000 then bce (yhatBlock (F := Ideal) H U W B (ix2 b j)) (T (ix2 b j)) else 0 := by
  have hz : (k1_pay6 (F := Ideal)) (ix2 0 0) = (0 : EReal) := by pointwise [k1_pay6]
  unfold lossBlock
  pointwise []
  simp only [lossStep_apply, hz, zero_add]
  simp only [Fin.sum_univ_eight]

/-! ## An input block at an index inside the array -/

variable (V : Valuation τ sig (Elt Ideal))

/-- The hidden features the second call reads. -/
abbrev aH : FVec Ideal S8x2500x50 .bf16 := V main_v4
/-- The label vectors it reads. -/
abbrev aU : FVec Ideal S8000x50 .bf16 := V main_v5
/-- The final weights it reads. -/
abbrev aW : FVec Ideal S8000x50 .bf16 := V main_v6
/-- The final bias it reads. -/
abbrev aB : FVec Ideal S1x8000 .f32 := V main_v7
/-- The targets it reads. -/
abbrev aT : FVec Ideal S8x8000 .f32 := V main_arg1

/-- The index maps of the second call's windows. -/
theorem index1 : (∀ t : Fin grid1.N, win1_1.index t = ![t.val, 0]) ∧ (∀ t : Fin grid1.N, win1_2.index t = ![t.val, 0])
    ∧ (∀ t : Fin grid1.N, win1_3.index t = ![0, t.val]) ∧ (∀ t : Fin grid1.N, win1_4.index t = ![0, t.val])
    ∧ (∀ t : Fin grid1.N, win1_5.index t = ![0, 0, t.val]) ∧ (∀ t : Fin grid1.N, win1_6.index t = ![0, t.val])
    ∧ (∀ t : Fin grid1.N, win1_7.index t = ![t.val, 0, 0]) ∧ (∀ t : Fin grid1.N, (grid1.coords t 0).val = t.val) := by
  refine ⟨?_, ?_, ?_, ?_, ?_, ?_, ?_, ?_⟩ <;> decide +kernel

/-- A block's index inside the array is moved. -/
theorem moved_of (ix k d j : ℕ) (hj : j < k) (h : ix * k + j < d) : j < (Pipeline.Clip.of ix k d).extent k := by
  unfold Pipeline.Clip.of
  split
  · exact hj
  · show j < d - ix * k; omega

/-- What is moved lies inside the array. -/
theorem of_moved (ix k d j : ℕ) (h : j < (Pipeline.Clip.of ix k d).extent k) : ix * k + j < d := by
  unfold Pipeline.Clip.of at h
  split at h
  · rename_i h'; rw [Nat.succ_mul] at h'; have : j < k := h; omega
  · have : j < d - ix * k := h; omega

/-- The block of label vectors at a label inside the array. -/
theorem uBlk_apply (t : Fin cfg1.N) (d) (j : Fin 128) (f : Fin 50) (h : 128 * t.val + j.val < 8000) :
    uBlk V t d (ix2 j f) = aU V (ix2 ⟨128 * t.val + j.val, h⟩ f) := by
  have e0 : cc1_transform_1 (grid1.coords t) 0 = t.val := congrFun (index1.1 t) 0
  have hm : (cfg1.win 1).moved (grid1.coords t) (ix2 j f) = true := by
    rw [Pipeline.Window.moved_iff]
    intro a
    match a with
    | ⟨0, _⟩ => exact moved_of (cc1_transform_1 (grid1.coords t) 0) 128 8000 j.val j.isLt (by omega)
    | ⟨1, _⟩ => exact moved_of (cc1_transform_1 (grid1.coords t) 1) 50 50 f.val f.isLt (by show 0 * 50 + f.val < 50; omega)
  unfold uBlk Pipeline.Window.fill
  rw [dif_pos hm]
  refine congrArg (aU V) ?_
  blk_ext [index1.1]

/-- The block of final weights at a label inside the array. -/
theorem fBlk_apply (t : Fin cfg1.N) (d) (j : Fin 128) (f : Fin 50) (h : 128 * t.val + j.val < 8000) :
    fBlk V t d (ix2 j f) = aW V (ix2 ⟨128 * t.val + j.val, h⟩ f) := by
  have e0 : cc1_transform_2 (grid1.coords t) 0 = t.val := congrFun (index1.2.1 t) 0
  have hm : (cfg1.win 2).moved (grid1.coords t) (ix2 j f) = true := by
    rw [Pipeline.Window.moved_iff]
    intro a
    match a with
    | ⟨0, _⟩ => exact moved_of (cc1_transform_2 (grid1.coords t) 0) 128 8000 j.val j.isLt (by omega)
    | ⟨1, _⟩ => exact moved_of (cc1_transform_2 (grid1.coords t) 1) 50 50 f.val f.isLt (by show 0 * 50 + f.val < 50; omega)
  unfold fBlk Pipeline.Window.fill
  rw [dif_pos hm]
  refine congrArg (aW V) ?_
  blk_ext [index1.2.1]

/-- The block of the final bias at a label inside the array. -/
theorem cBlk_apply (t : Fin cfg1.N) (d) (o : Fin 1) (j : Fin 128) (h : 128 * t.val + j.val < 8000) :
    cBlk V t d (ix2 o j) = aB V (ix2 o ⟨128 * t.val + j.val, h⟩) := by
  have e0 : cc1_transform_3 (grid1.coords t) 1 = t.val := congrFun (index1.2.2.1 t) 1
  have hm : (cfg1.win 3).moved (grid1.coords t) (ix2 o j) = true := by
    rw [Pipeline.Window.moved_iff]
    intro a
    match a with
    | ⟨0, _⟩ => exact moved_of (cc1_transform_3 (grid1.coords t) 0) 1 1 o.val o.isLt (by show 0 * 1 + o.val < 1; omega)
    | ⟨1, _⟩ => exact moved_of (cc1_transform_3 (grid1.coords t) 1) 128 8000 j.val j.isLt (by omega)
  unfold cBlk Pipeline.Window.fill
  rw [dif_pos hm]
  refine congrArg (aB V) ?_
  blk_ext [index1.2.2.1]

/-- The block of targets at a label inside the array. -/
theorem tBlk_apply (t : Fin cfg1.N) (d) (b : Fin 8) (j : Fin 128) (h : 128 * t.val + j.val < 8000) :
    tBlk V t d (ix2 b j) = aT V (ix2 b ⟨128 * t.val + j.val, h⟩) := by
  have e0 : cc1_transform_4 (grid1.coords t) 1 = t.val := congrFun (index1.2.2.2.1 t) 1
  have hm : (cfg1.win 4).moved (grid1.coords t) (ix2 b j) = true := by
    rw [Pipeline.Window.moved_iff]
    intro a
    match a with
    | ⟨0, _⟩ => exact moved_of (cc1_transform_4 (grid1.coords t) 0) 8 8 b.val b.isLt (by show 0 * 8 + b.val < 8; omega)
    | ⟨1, _⟩ => exact moved_of (cc1_transform_4 (grid1.coords t) 1) 128 8000 j.val j.isLt (by omega)
  unfold tBlk Pipeline.Window.fill
  rw [dif_pos hm]
  refine congrArg (aT V) ?_
  blk_ext [index1.2.2.2.1]

/-- The block of hidden features is all of them. -/
theorem hBlk_apply (t : Fin cfg1.N) (b : Fin 8) (l : Fin 2500) (f : Fin 50) : hBlk V t (ix3 b l f) = aH V (ix3 b l f) := by
  refine congrArg (aH V) ?_
  blk_ext [show ∀ t : Fin grid1.N, win1_0.index t = ![0, 0, 0] from fun _ => rfl]

/-! ## The results of the second call, at the arrays -/

/-- The attention weights the second call leaves. -/
def gA : FVec Ideal S2500x8x8000 .f32 := fun i =>
  soft (scores (fun l f => aH V (ix3 (i 1) l f)) fun f => aU V (ix2 (i 2) f)) (i 0)

/-- The outputs the second call leaves. -/
def gY : FVec Ideal S8x8000 .f32 := fun i =>
  label (fun l f => aH V (ix3 (i 0) l f)) (fun f => aU V (ix2 (i 1) f)) (fun f => aW V (ix2 (i 1) f)) (aB V (ix2 0 (i 1)))

/-- The loss of the labels of the block at `n` that lie inside the array. -/
def pointLoss (n : ℕ) : EReal :=
  ∑ b : Fin 8, ∑ j : Fin 128, if h : 128 * n + j.val < 8000
    then bce (gY V (ix2 b ⟨128 * n + j.val, h⟩)) (aT V (ix2 b ⟨128 * n + j.val, h⟩)) else 0

/-- The losses the second call leaves, one for each point. -/
def gL : FVec Ideal S63x1x1 .f32 := fun i => pointLoss V (i 0).val

/-- A point's attention block at a label inside the array, whatever lies past the array's end. -/
theorem alpha_at (t : Fin cfg1.N) (d) (l : Fin 2500) (b : Fin 8) (j : Fin 128) (h : 128 * t.val + j.val < 8000) :
    alphaBlock (F := Ideal) (hBlk V t) (uBlk V t d) (ix3 l b j) = gA V (ix3 l b ⟨128 * t.val + j.val, h⟩) := by
  rw [alphaBlock_apply]
  simp only [uBlk_apply V t d j _ h, hBlk_apply]
  rfl

/-- A point's outputs at a label inside the array, whatever lies past the array's end. -/
theorem yhat_at (t : Fin cfg1.N) (d1 d2 d3) (b : Fin 8) (j : Fin 128) (h : 128 * t.val + j.val < 8000) :
    yhatBlock (F := Ideal) (hBlk V t) (uBlk V t d1) (fBlk V t d2) (cBlk V t d3) (ix2 b j) = gY V (ix2 b ⟨128 * t.val + j.val, h⟩) := by
  rw [yhatBlock_apply]
  simp only [uBlk_apply V t d1 j _ h, fBlk_apply V t d2 j _ h, cBlk_apply V t d3 0 j h, hBlk_apply]
  rfl

/-- A point's loss, whatever lies past the array's end. -/
theorem loss_at (t : Fin cfg1.N) (d1 d2 d3 d4) (k : S1x1x1.Idx) :
    lossBlock (F := Ideal) (grid1.coords t) (hBlk V t) (uBlk V t d1) (fBlk V t d2) (cBlk V t d3) (tBlk V t d4) k
      = pointLoss V t.val := by
  rw [lossBlock_apply]
  refine Finset.sum_congr rfl fun b _ => Finset.sum_congr rfl fun j _ => ?_
  rw [index1.2.2.2.2.2.2.2 t]
  by_cases h : 128 * t.val + j.val < 8000
  · rw [if_pos h, dif_pos h, yhat_at V t d1 d2 d3 b j h, tBlk_apply V t d4 b j h]
  · rw [if_neg h, dif_neg h]

end Cert.Caml

end
-- ==== Proof.Exact.lean ====
module

public import proofs.«01_k».proof.Proof.Blocks

@[expose] public section

noncomputable section

namespace Cert.Caml

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

local notation "𝕄" => MT nD τ sig Unit (Elt Ideal) ℕ (UR sig nD τ) ℕ

variable (V : Valuation τ sig (Elt Ideal)) (c : Dev nD)

/-- A moved label of an attention block lies inside the array. -/
theorem moved5 (t : Fin cfg1.N) (y : ((cfg1.win 5).xblock (grid1.coords t)).Idx) : 128 * t.val + (y 2).val < 8000 := by
  have e0 : cc1_transform_5 (grid1.coords t) 2 = t.val := congrFun (index1.2.2.2.2.1 t) 2
  have := of_moved (cc1_transform_5 (grid1.coords t) 2) 128 8000 (y 2).val (y 2).isLt
  omega

/-- A moved label of an output block lies inside the array. -/
theorem moved6 (t : Fin cfg1.N) (y : ((cfg1.win 6).xblock (grid1.coords t)).Idx) : 128 * t.val + (y 1).val < 8000 := by
  have e0 : cc1_transform_6 (grid1.coords t) 1 = t.val := congrFun (index1.2.2.2.2.2.1 t) 1
  have := of_moved (cc1_transform_6 (grid1.coords t) 1) 128 8000 (y 1).val (y 1).isLt
  omega

/-- A moved entry of a point's attention block. -/
theorem alpha_moved (t : Fin cfg1.N) (d) (y : ((cfg1.win 5).xblock (grid1.coords t)).Idx) :
    alphaBlock (F := Ideal) (hBlk V t) (uBlk V t d) ((cfg1.win 5).xinj (grid1.coords t) y)
      = gA V (ix3 ((cfg1.win 5).xinj (grid1.coords t) y 0) ((cfg1.win 5).xinj (grid1.coords t) y 1) ⟨128 * t.val + (y 2).val, moved5 t y⟩) := by
  refine Eq.trans (congrArg _ ?_) (alpha_at V t d _ _ ((cfg1.win 5).xinj (grid1.coords t) y 2) (moved5 t y))
  funext a
  match a with
  | ⟨0, _⟩ => rfl
  | ⟨1, _⟩ => rfl
  | ⟨2, _⟩ => rfl

/-- A moved entry of a point's outputs. -/
theorem yhat_moved (t : Fin cfg1.N) (d1 d2 d3) (y : ((cfg1.win 6).xblock (grid1.coords t)).Idx) :
    yhatBlock (F := Ideal) (hBlk V t) (uBlk V t d1) (fBlk V t d2) (cBlk V t d3) ((cfg1.win 6).xinj (grid1.coords t) y)
      = gY V (ix2 ((cfg1.win 6).xinj (grid1.coords t) y 0) ⟨128 * t.val + (y 1).val, moved6 t y⟩) := by
  refine Eq.trans (congrArg _ ?_) (yhat_at V t d1 d2 d3 _ ((cfg1.win 6).xinj (grid1.coords t) y 1) (moved6 t y))
  funext a
  match a with
  | ⟨0, _⟩ => rfl
  | ⟨1, _⟩ => rfl

/-- The moved part of a point's attention block does not depend on what lies past the array's end. -/
theorem alpha_cut (t : Fin cfg1.N) (d) :
    (cfg1.win 5).cut (grid1.coords t) (alphaBlock (F := Ideal) (hBlk V t) (uBlk V t d)) = (cfg1.win 5).cut (grid1.coords t) ((dat1 V c).after 5 t) :=
  funext fun y => (alpha_moved V t d y).trans (alpha_moved V t (pad16 Ideal) y).symm

/-- Nor does that of its outputs. -/
theorem yhat_cut (t : Fin cfg1.N) (d1 d2 d3) :
    (cfg1.win 6).cut (grid1.coords t) (yhatBlock (F := Ideal) (hBlk V t) (uBlk V t d1) (fBlk V t d2) (cBlk V t d3))
      = (cfg1.win 6).cut (grid1.coords t) ((dat1 V c).after 6 t) :=
  funext fun y => (yhat_moved V t d1 d2 d3 y).trans (yhat_moved V t (pad16 Ideal) (pad16 Ideal) (pad32 Ideal) y).symm

/-- A point's attention block, its moved part named by the proof data. -/
theorem alpha_fill (t : Fin cfg1.N) (d) :
    (win1 5).fill (grid1.coords t) (alphaBlock (F := Ideal) (hBlk V t) (uBlk V t d)) ((win1 5).cut (grid1.coords t) ((dat1 V c).after 5 t))
      = alphaBlock (F := Ideal) (hBlk V t) (uBlk V t d) :=
  (win1 5).fill_congr_cut (grid1.coords t) (alpha_cut V c t d)

/-- A point's outputs, their moved part named by the proof data. -/
theorem yhat_fill (t : Fin cfg1.N) (d1 d2 d3) :
    (win1 6).fill (grid1.coords t) (yhatBlock (F := Ideal) (hBlk V t) (uBlk V t d1) (fBlk V t d2) (cBlk V t d3))
        ((win1 6).cut (grid1.coords t) ((dat1 V c).after 6 t))
      = yhatBlock (F := Ideal) (hBlk V t) (uBlk V t d1) (fBlk V t d2) (cBlk V t d3) :=
  (win1 6).fill_congr_cut (grid1.coords t) (yhat_cut V c t d1 d2 d3)

/-- Nor does its loss. -/
theorem loss_same (t : Fin cfg1.N) (d1 d2 d3 d4) :
    lossBlock (F := Ideal) (grid1.coords t) (hBlk V t) (uBlk V t d1) (fBlk V t d2) (cBlk V t d3) (tBlk V t d4) = (dat1 V c).after 7 t :=
  funext fun k => (loss_at V t d1 d2 d3 d4 k).trans (loss_at V t (pad16 Ideal) (pad16 Ideal) (pad32 Ideal) (pad32 Ideal) k).symm

/-- The second call's body meets its proof data. -/
theorem attn_obligation (V : Valuation τ sig (Elt Ideal)) (c : Dev nD) :
    BodyObligationLoose (dat1 V c) (defs₀ (F := Ideal)) Variants.none () Set.univ (fgOut false) := fun t => by
  obtain ⟨h0, h1, h2, h3, h4⟩ := attn_before V c t
  obtain ⟨k1, k2, k3, k4⟩ := attn_keep V c t
  rw [bigSep_W1, bigSep_W1]
  simp only [h0, h1, h2, h3, h4, fgOut]
  rw [show (dat1 V c).Φ t.castSucc = attn_inv c from rfl, show (dat1 V c).Φ t.succ = attn_inv c from rfl,
    show (dat1 V c).owesAt () t.succ = (dat1 V c).owesAt () t.castSucc from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (attn_body (F := Ideal) Variants.none c none (grid1.coords t) _ _ _ _ _ _ _ _ _ _ _ _ _ _ _ _ Set.univ
    (hBlk V t) (uBlk V t d1) (fBlk V t d2) (cBlk V t d3) (tBlk V t d4) ((dat1 V c).before 5 t d5) ((dat1 V c).before 6 t d6) ((dat1 V c).before 7 t d7) _)
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  iintro ⟨H0, H1, H2, H3, H4, H5, H6, H7⟩
  isplitl [HΦ]; · iexact HΦ
  isplitl [Ho]; · iexact Ho
  isplitl [H0]; · iexact H0
  isplitl [H1]; · iexists d1; change _ ⊢ owns _ _ _ ((cfg1.win 1).fill (grid1.coords t) d1 ((cfg1.win 1).cut (grid1.coords t) ((dat1 V c).after 1 t))); rw [k1]
  isplitl [H2]; · iexists d2; change _ ⊢ owns _ _ _ ((cfg1.win 2).fill (grid1.coords t) d2 ((cfg1.win 2).cut (grid1.coords t) ((dat1 V c).after 2 t))); rw [k2]
  isplitl [H3]; · iexists d3; change _ ⊢ owns _ _ _ ((cfg1.win 3).fill (grid1.coords t) d3 ((cfg1.win 3).cut (grid1.coords t) ((dat1 V c).after 3 t))); rw [k3]
  isplitl [H4]; · iexists d4; change _ ⊢ owns _ _ _ ((cfg1.win 4).fill (grid1.coords t) d4 ((cfg1.win 4).cut (grid1.coords t) ((dat1 V c).after 4 t))); rw [k4]
  isplitl [H5]
  · iexists (alphaBlock (F := Ideal) (hBlk V t) (uBlk V t d1))
    rw [alpha_fill V c t d1]
    iexact H5
  isplitl [H6]
  · iexists (yhatBlock (F := Ideal) (hBlk V t) (uBlk V t d1) (fBlk V t d2) (cBlk V t d3))
    rw [yhat_fill V c t d1 d2 d3]
    iexact H6
  rw [← loss_same V c t d1 d2 d3 d4]
  iexact H7

end Cert.Caml

end
-- ==== Proof.Arrays.lean ====
module

public import proofs.«01_k».proof.Proof.Exact

@[expose] public section

noncomputable section

namespace Cert.Caml

open Cert.KernelIdeal Cert.KernelIdeal.Gen
open Idealize.ShloMosaic Idealize.ShloMosaic.TcCoe Idealize.SL
open Idealize.ShloMosaic.Pipeline (Dat)

variable (V : Valuation τ sig (Elt Ideal)) (c : Dev nD)

/-- The second call's attention weights after it. -/
theorem arr5 : (dat1 V c).arrAt 5 cfg1.N = gA V := by
  refine (dat1 V c).arrAt_eq_of_covers 5 (gA V) (by decide +kernel) fun t hf y => ?_
  refine (alpha_moved V t (pad16 Ideal) y).trans (congrArg (gA V) ?_)
  blk_ext [index1.2.2.2.2.1]

/-- The second call's outputs after it. -/
theorem arr6 : (dat1 V c).arrAt 6 cfg1.N = gY V := by
  refine (dat1 V c).arrAt_eq_of_covers 6 (gY V) (by decide +kernel) fun t hf y => ?_
  refine (yhat_moved V t (pad16 Ideal) (pad16 Ideal) (pad32 Ideal) y).trans (congrArg (gY V) ?_)
  blk_ext [index1.2.2.2.2.2.1]

/-- The second call's losses after it. -/
theorem arr7 : (dat1 V c).arrAt 7 cfg1.N = gL V := by
  refine (dat1 V c).arrAt_eq_of_covers 7 (gL V) (by decide +kernel) fun t hf y => ?_
  refine (loss_at V t (pad16 Ideal) (pad16 Ideal) (pad32 Ideal) (pad32 Ideal) y).trans (congrArg (pointLoss V) ?_)
  blk_simp [index1.2.2.2.2.2.2.1]

/-! ## The first call -/

/-- The padded rows of one document, read from its tokens and the table in the shapes of the first call. -/
def rowsOf (X : Fin 2500 → BitVec 32) (T : FVec Ideal S50002x1x100 .f32) (r : Fin 2508) (d : Fin 100) : EReal :=
  if h : 4 ≤ r.val ∧ r.val - 4 < 2500 then T (ix3 ⟨min (X ⟨r.val - 4, h.2⟩).toNat 50001, by omega⟩ 0 d) else 0

/-- The scratch of the first call read as padded rows. -/
theorem embRows_apply (X : IVec S1x1x2500 32) (T : FVec Ideal S50002x1x100 .f32) (r : Fin 2508) (d : Fin 100) :
    embRows (F := Ideal) X T (ix3 r 0 d) = rowsOf (fun l => X (ix3 0 0 l)) T r d := by
  have hz : (Scalar.ofBits .f32 0x00000000#32 : Ideal .f32) = 0 := Ideal.ofBits_zero .f32
  unfold embRows rowsOf
  rw [hz]
  by_cases h : 4 ≤ r.val ∧ r.val - 4 < 2500
  · rw [dif_pos h]
    refine (dif_pos (show 4 ≤ r.val ∧ r.val < 2504 by omega)).trans ?_
    simp only [← ix3_eq_valueIdx]
    rfl
  · rw [dif_neg h]
    exact dif_neg (show ¬(4 ≤ r.val ∧ r.val < 2504) by omega)

/-- The first call's block at a position and a feature. -/
theorem convBlock_apply (X : IVec S1x1x2500 32) (T : FVec Ideal S50002x1x100 .f32) (W : FVec Ideal S9x100x50 .f32) (B : FVec Ideal S1x50 .f32)
    (l : Fin 2500) (f : Fin 50) :
    convBlock (F := Ideal) X T W B (ix3 0 l f)
      = hid (rowsOf (fun l => X (ix3 0 0 l)) T) (fun k d => W (ix3 k d f)) (B (ix2 0 f)) l := by
  refine (hidden_apply _ _ _ _ _ _ _ _ _ _ B (fun k d f => W (ix3 k d f)) (tap_ld W 0 (by omega) _) (tap_ld W 1 (by omega) _)
    (tap_ld W 2 (by omega) _) (tap_ld W 3 (by omega) _) (tap_ld W 4 (by omega) _) (tap_ld W 5 (by omega) _) (tap_ld W 6 (by omega) _)
    (tap_ld W 7 (by omega) _) (tap_ld W 8 (by omega) _) l f).trans ?_
  rw [show (fun r d => embRows (F := Ideal) X T (ix3 r 0 d)) = rowsOf (fun l => X (ix3 0 0 l)) T from
    funext fun r => funext fun d => embRows_apply X T r d]

/-- The tokens the first call reads. -/
abbrev cX : IVec S8x1x2500 32 := V main_v1
/-- The table it reads. -/
abbrev cT : FVec Ideal S50002x1x100 .f32 := V main_v2
/-- The convolution weights it reads. -/
abbrev cW : FVec Ideal S9x100x50 .f32 := V main_v0
/-- The convolution bias it reads. -/
abbrev cB : FVec Ideal S1x50 .f32 := V main_v3

/-- The index maps of the first call's windows. -/
theorem index0 : (∀ t : Fin grid0.N, win0_0.index t = ![t.val, 0, 0]) ∧ (∀ t : Fin grid0.N, win0_1.index t = ![0, 0, 0])
    ∧ (∀ t : Fin grid0.N, win0_2.index t = ![0, 0, 0]) ∧ (∀ t : Fin grid0.N, win0_3.index t = ![0, 0])
    ∧ (∀ t : Fin grid0.N, win0_4.index t = ![t.val, 0, 0]) := by
  refine ⟨?_, ?_, ?_, ?_, ?_⟩ <;> decide +kernel

/-- The hidden features the first call leaves, at a document, a position and a feature. -/
def feat (b : Fin 8) (l : Fin 2500) (f : Fin 50) : EReal :=
  hid (rowsOf (fun l => cX V (ix3 b 0 l)) (cT V)) (fun k d => cW V (ix3 k d f)) (cB V (ix2 0 f)) l

/-- The same as an array. -/
def gH : FVec Ideal S8x2500x50 .bf16 := fun i => feat V (i 0) (i 1) (i 2)

/-- A document's row of tokens. -/
theorem xBlk_apply (t : Fin cfg0.N) (l : Fin 2500) : xBlk V t (ix3 0 0 l) = cX V (ix3 t 0 l) := by
  refine congrArg (cX V) ?_
  blk_ext [index0.1]

/-- The table comes whole. -/
theorem tabBlk_eq (t : Fin cfg0.N) : tabBlk V t = cT V := by
  refine funext fun i => congrArg (cT V) ?_
  blk_ext [index0.2.1]

/-- The convolution weights come whole. -/
theorem wBlk_eq (t : Fin cfg0.N) : wBlk V t = cW V := by
  refine funext fun i => congrArg (cW V) ?_
  blk_ext [index0.2.2.1]

/-- The convolution bias comes whole. -/
theorem bBlk_eq (t : Fin cfg0.N) : bBlk V t = cB V := by
  refine funext fun i => congrArg (cB V) ?_
  blk_ext [index0.2.2.2.1]

/-- The first call's block at one grid point is the document's hidden features. -/
theorem feat_at (t : Fin cfg0.N) (l : Fin 2500) (f : Fin 50) :
    convBlock (F := Ideal) (xBlk V t) (tabBlk V t) (wBlk V t) (bBlk V t) (ix3 0 l f) = feat V t l f := by
  rw [tabBlk_eq, wBlk_eq, bBlk_eq]
  refine (convBlock_apply _ _ _ _ l f).trans ?_
  rw [show (fun l => xBlk V t (ix3 0 0 l)) = fun l => cX V (ix3 t 0 l) from funext fun l => xBlk_apply V t l]
  rfl

/-- The hidden features after the first call. -/
theorem arr4 : (dat0 V c).arrAt 4 cfg0.N = gH V := by
  refine (dat0 V c).arrAt_eq_of_covers 4 (gH V) (by decide +kernel) fun t hf y => ?_
  have e : y = ix3 0 (y 1) (y 2) := by
    funext a
    match a with
    | ⟨0, _⟩ => exact Subsingleton.elim (α := Fin 1) _ _
    | ⟨1, _⟩ => rfl
    | ⟨2, _⟩ => rfl
  rw [e]
  refine (feat_at V t (y 1) (y 2)).trans ?_
  refine congrArg (gH V) (a₁ := ix3 t (y 1) (y 2)) ?_
  blk_ext [index0.2.2.2.2]

end Cert.Caml

end
-- ==== Proof.Values.lean ====
module

public import proofs.«01_k».proof.Proof.Arrays
public import proofs.«01_k».proof.Proof.Run

@[expose] public section

noncomputable section

namespace Cert.Caml

open Cert.KernelIdeal Cert.KernelIdeal.Gen
open Idealize.ShloMosaic Idealize.ShloMosaic.TcCoe Idealize.SL
open Idealize.ShloMosaic.Pipeline (Dat)

/-! ## Sums over blocks -/

/-- A sum over blocks of `b` numbers, those from `n` on left out, is the sum of the first `n`. -/
theorem sum_blocks (a b n : ℕ) (hn : n ≤ a * b) (g : Fin n → EReal) :
    (∑ t : Fin a, ∑ j : Fin b, if h : b * t.val + j.val < n then g ⟨b * t.val + j.val, h⟩ else 0) = ∑ y, g y := by
  let G : ℕ → EReal := fun k => if h : k < n then g ⟨k, h⟩ else 0
  have h1 : (∑ t : Fin a, ∑ j : Fin b, G (b * t.val + j.val)) = ∑ k : Fin (a * b), G k.val := by
    rw [← Equiv.sum_comp finProdFinEquiv (fun k : Fin (a * b) => G k.val), Fintype.sum_prod_type]
    refine Finset.sum_congr rfl fun t _ => Finset.sum_congr rfl fun j _ => congrArg G ?_
    show b * t.val + j.val = j.val + b * t.val
    exact Nat.add_comm _ _
  refine h1.trans ?_
  rw [Fin.sum_univ_eq_sum_range G (a * b), ← Finset.sum_subset (Finset.range_subset_range.2 hn) (fun k _ hk => dif_neg (by simpa using hk)),
    ← Fin.sum_univ_eq_sum_range G n]
  exact Finset.sum_congr rfl fun y _ => dif_pos y.isLt

/-- The losses of the blocks add up to the loss of every document and label. -/
theorem sum_losses (V : Valuation τ sig (Elt Ideal)) :
    (∑ t : Fin 63, pointLoss V t.val) = ∑ b : Fin 8, ∑ y : Fin 8000, bce (gY V (ix2 b y)) (aT V (ix2 b y)) := by
  unfold pointLoss
  rw [Finset.sum_comm]
  refine Finset.sum_congr rfl fun b _ => ?_
  exact sum_blocks 63 128 8000 (by norm_num) fun y => bce (gY V (ix2 b y)) (aT V (ix2 b y))

/-! ## The host operations at an index -/

/-- The convolution weights with their axes reversed. -/
theorem reversed_apply (X : FVec Ideal S50x100x9 .f32) (k : Fin 9) (d : Fin 100) (f : Fin 50) :
    transpose S9x100x50 [2, 1, 0] X transposes_S50x100x9_S9x100x50_2_1_0 (ix3 k d f) = X (ix3 f d k) := by
  pointwise []

/-- The attention weights with their positions last. -/
theorem turned_apply (X : FVec Ideal S2500x8x8000 .f32) (b : Fin 8) (y : Fin 8000) (l : Fin 2500) :
    transpose S8x8000x2500 [1, 2, 0] X transposes_S2500x8x8000_S8x8000x2500_1_2_0 (ix3 b y l) = X (ix3 l b y) := by
  pointwise []

/-- The tokens with an axis put between. -/
theorem tokens_apply (X : IVec S8x2500 32) (b : Fin 8) (l : Fin 2500) :
    shapeCast S8x1x2500 X shapeCasts_S8x2500_S8x1x2500 (ix3 b 0 l) = X (ix2 b l) := by
  pointwise []

/-- The table with an axis put between. -/
theorem table_apply (X : FVec Ideal S50002x100 .f32) (r : Fin 50002) (d : Fin 100) :
    shapeCast S50002x1x100 X shapeCasts_S50002x100_S50002x1x100 (ix3 r 0 d) = X (ix2 r d) := by
  pointwise []

/-- The convolution bias as a row. -/
theorem bias_apply (X : FVec Ideal S50 .f32) (f : Fin 50) : shapeCast S1x50 X shapeCasts_S50_S1x50 (ix2 0 f) = X (ix1 f) := by
  pointwise []

/-- The final bias as a row. -/
theorem finalBias_apply (X : FVec Ideal S8000 .f32) (y : Fin 8000) : shapeCast S1x8000 X shapeCasts_S8000_S1x8000 (ix2 0 y) = X (ix1 y) := by
  pointwise []

/-- The blocks' losses summed and divided by the number of documents and labels. -/
theorem mean_apply (X : FVec Ideal S63x1x1 .f32) (i : S_.Idx) :
    Host.divf (Host.reduceAdd X (constant S_ .f32 0x00000000#32) reducesTo_S63x1x1_S_d0_1_2 h_S_) (constant S_ .f32 0x477A0000#32) i
      = Ideal.div (∑ t : Fin 63, X (ix3 t 0 0)) (Ideal.ofBits .f32 0x477A0000#32) := by
  pointwise []
  simp only [Fin.sum_univ_one]

/-- A document's padded rows read from the reshaped tokens and table. -/
theorem rowsOf_cast (X : IVec S8x2500 32) (T : FVec Ideal S50002x100 .f32) (b : Fin 8) :
    rowsOf (fun l => shapeCast S8x1x2500 X shapeCasts_S8x2500_S8x1x2500 (ix3 b 0 l)) (shapeCast S50002x1x100 T shapeCasts_S50002x100_S50002x1x100)
      = embed X T b := by
  refine funext fun r => funext fun d => ?_
  unfold rowsOf embed
  simp only [tokens_apply, table_apply]

/-- A hidden feature depends on the rows, the weights and the bias alone. -/
theorem hid_congr {e e' : Fin 2508 → Fin 100 → EReal} {w w' : Fin 9 → Fin 100 → EReal} {c c' : EReal} (he : e = e') (hw : w = w') (hc : c = c')
    (l : Fin 2500) : hid e w c l = hid e' w' c' l := by
  subst he hw hc
  rfl

/-- A softmax depends on the features and the label vector alone. -/
theorem soft_congr {h h' : Fin 2500 → Fin 50 → EReal} {u u' : Fin 50 → EReal} (hh : ∀ l f, h l f = h' l f) (hu : ∀ f, u f = u' f)
    (l : Fin 2500) : soft (scores h u) l = soft (scores h' u') l := by
  obtain rfl : h = h' := funext fun l => funext fun f => hh l f
  obtain rfl : u = u' := funext hu
  rfl

/-- An output depends on the features, the label vector, the final weights and the bias alone. -/
theorem label_congr {h h' : Fin 2500 → Fin 50 → EReal} {u u' w w' : Fin 50 → EReal} {c c' : EReal} (hh : ∀ l f, h l f = h' l f)
    (hu : ∀ f, u f = u' f) (hw : ∀ f, w f = w' f) (hc : c = c') : label h u w c = label h' u' w' c' := by
  obtain rfl : h = h' := funext fun l => funext fun f => hh l f
  obtain rfl : u = u' := funext hu
  obtain rfl : w = w' := funext hw
  rw [hc]

/-! ## The kernel's buffers in terms of its arguments -/

variable (m : (ℓ : Loc nD τ sig) → Buf (Elt Ideal) ℓ) (c : Dev nD)

/-- The tokens. -/
abbrev kX : IVec S8x2500 32 := m ((c : Thread nD τ).loc main_arg0)
/-- The targets. -/
abbrev kT : FVec Ideal S8x8000 .f32 := m ((c : Thread nD τ).loc main_arg1)
/-- The embedding table. -/
abbrev kE : FVec Ideal S50002x100 .f32 := m ((c : Thread nD τ).loc main_arg2)
/-- The convolution weights. -/
abbrev kC : FVec Ideal S50x100x9 .f32 := m ((c : Thread nD τ).loc main_arg3)
/-- The convolution bias. -/
abbrev kc : FVec Ideal S50 .f32 := m ((c : Thread nD τ).loc main_arg4)
/-- The label vectors. -/
abbrev kU : FVec Ideal S8000x50 .f32 := m ((c : Thread nD τ).loc main_arg5)
/-- The final weights. -/
abbrev kW : FVec Ideal S8000x50 .f32 := m ((c : Thread nD τ).loc main_arg6)
/-- The final bias. -/
abbrev kB : FVec Ideal S8000 .f32 := m ((c : Thread nD τ).loc main_arg7)
/-- The hidden features of the arguments. -/
abbrev kH : Fin 8 → Fin 2500 → Fin 50 → EReal := hiddenOf (kX m c) (kE m c) (kC m c) (kc m c)

/-- What the first call reads. -/
theorem first_reads : cX (V1 m c) = shapeCast S8x1x2500 (kX m c) shapeCasts_S8x2500_S8x1x2500
    ∧ cT (V1 m c) = shapeCast S50002x1x100 (kE m c) shapeCasts_S50002x100_S50002x1x100
    ∧ cW (V1 m c) = transpose S9x100x50 [2, 1, 0] (kC m c) transposes_S50x100x9_S9x100x50_2_1_0
    ∧ cB (V1 m c) = shapeCast S1x50 (kc m c) shapeCasts_S50_S1x50 := ⟨rfl, rfl, rfl, rfl⟩

/-- The first call's features are the hidden features of the arguments. -/
theorem feat_eq (b : Fin 8) (l : Fin 2500) (f : Fin 50) : feat (V1 m c) b l f = kH m c b l f := by
  obtain ⟨hX, hT, hW, hB⟩ := first_reads m c
  have e1 : rowsOf (fun l => cX (V1 m c) (ix3 b 0 l)) (cT (V1 m c)) = embed (kX m c) (kE m c) b := by
    rw [hX, hT]
    exact rowsOf_cast (kX m c) (kE m c) b
  have e2 : (fun k d => cW (V1 m c) (ix3 k d f)) = fun (k : Fin 9) (d : Fin 100) => kC m c (ix3 f d k) := by
    rw [hW]
    exact funext fun k => funext fun d => reversed_apply (kC m c) k d f
  have e3 : cB (V1 m c) (ix2 0 f) = kc m c (ix1 f) := by
    rw [hB]
    exact bias_apply (kc m c) f
  unfold feat
  exact hid_congr e1 e2 e3 l

/-- A buffer no operation before the second call writes. -/
theorem W3_arg (r : Ref sig .tc) (h0 : r ∉ hostOps0_W) (h1 : r ∉ hostOps1_W) (h4 : r ≠ main_v4) :
    W3 m c r = m ((c : Thread nD τ).loc r) :=
  (W3_of m c r h1).trans ((W2_of m c r h4).trans (StableHlo.after_of_writes_sub hostOps0 _ hostOps0_writes h0))

/-- What the host operations before the second call leave. -/
theorem second_of (V : Valuation τ sig (Elt Ideal)) :
    (aU (StableHlo.after hostOps1 V) = truncf .bf16 (V main_arg5 : FVec Ideal S8000x50 .f32) bitsLt_bf16_f32)
    ∧ (aW (StableHlo.after hostOps1 V) = truncf .bf16 (V main_arg6 : FVec Ideal S8000x50 .f32) bitsLt_bf16_f32)
    ∧ (aB (StableHlo.after hostOps1 V) = shapeCast S1x8000 (V main_arg7 : FVec Ideal S8000 .f32) shapeCasts_S8000_S1x8000) := ⟨rfl, rfl, rfl⟩

/-- A buffer neither the first host operations nor the first call writes. -/
theorem W2_arg (r : Ref sig .tc) (h0 : r ∉ hostOps0_W) (h4 : r ≠ main_v4) : W2 m c r = m ((c : Thread nD τ).loc r) :=
  (W2_of m c r h4).trans (StableHlo.after_of_writes_sub hostOps0 _ hostOps0_writes h0)

/-- The label vectors the second call reads. -/
theorem second_U : aU (W3 m c) = kU m c :=
  (second_of (W2 m c)).1.trans (W2_arg m c main_arg5 (by decide) (by decide))

/-- The final weights it reads. -/
theorem second_W : aW (W3 m c) = kW m c :=
  (second_of (W2 m c)).2.1.trans (W2_arg m c main_arg6 (by decide) (by decide))

/-- The final bias it reads. -/
theorem second_B (y : Fin 8000) : aB (W3 m c) (ix2 0 y) = kB m c (ix1 y) := by
  refine (congrFun (second_of (W2 m c)).2.2 (ix2 0 y)).trans ((finalBias_apply _ y).trans ?_)
  exact congrFun (W2_arg m c main_arg7 (by decide) (by decide)) (ix1 y)

/-- The hidden features it reads. -/
theorem second_H (b : Fin 8) (l : Fin 2500) (f : Fin 50) : aH (W3 m c) (ix3 b l f) = kH m c b l f := by
  have e : aH (W3 m c) = gH (V1 m c) := by
    refine (W3_of m c main_v4 (by decide)).trans ?_
    unfold W2
    rw [Function.update_self]
    exact arr4 (V1 m c) c
  rw [e]
  exact feat_eq m c b l f

/-- The targets it reads. -/
theorem second_T : aT (W3 m c) = kT m c := W3_arg m c main_arg1 (by decide) (by decide) (by decide)

/-- The second call's attention weights. -/
theorem gA_eq (b : Fin 8) (y : Fin 8000) (l : Fin 2500) : gA (W3 m c) (ix3 l b y) = alphaOf (kH m c) (kU m c) (ix3 b y l) :=
  soft_congr (fun l f => second_H m c b l f) (fun f => congrFun (second_U m c) (ix2 y f)) l

/-- The second call's outputs. -/
theorem gY_eq : gY (W3 m c) = yhatOf (kH m c) (kU m c) (kW m c) (kB m c) :=
  funext fun i => label_congr (fun l f => second_H m c (i 0) l f) (fun f => congrFun (second_U m c) (ix2 (i 1) f))
    (fun f => congrFun (second_W m c) (ix2 (i 1) f)) (second_B m c (i 1))

/-! ## The kernel's results -/

variable (A : Arrs (F := Ideal) c)

/-- The attention weights a run ends with. -/
abbrev zA (V : Valuation τ sig (Elt Ideal)) : FVec Ideal S8x8000x2500 .f32 := V main_v9
/-- The loss a run ends with. -/
abbrev zL (V : Valuation τ sig (Elt Ideal)) : FVec Ideal S_ .f32 := V main_v11
/-- The attention weights of the second call, positions first. -/
abbrev zP (V : Valuation τ sig (Elt Ideal)) : FVec Ideal S2500x8x8000 .f32 := V main_v8_0
/-- The losses of the second call's blocks. -/
abbrev zS (V : Valuation τ sig (Elt Ideal)) : FVec Ideal S63x1x1 .f32 := V main_v8_2

/-- What the host operations after the second call leave. -/
theorem last_of (V : Valuation τ sig (Elt Ideal)) :
    zA (StableHlo.after hostOps2 V) = transpose S8x8000x2500 [1, 2, 0] (zP V) transposes_S2500x8x8000_S8x8000x2500_1_2_0
    ∧ zL (StableHlo.after hostOps2 V) = Host.divf (Host.reduceAdd (zS V) (constant S_ .f32 0x00000000#32) reducesTo_S63x1x1_S_d0_1_2 h_S_)
        (constant S_ .f32 0x477A0000#32) := ⟨rfl, rfl⟩

/-- The outputs the kernel ends with. -/
theorem out_yhat : W5 m false c A main_v8_1 = yhatOf (kH m c) (kU m c) (kW m c) (kB m c) :=
  (W5_of m false c A main_v8_1 (by decide)).trans ((W4_out m false c A).2.1.trans ((arr6 (W3 m c) c).trans (gY_eq m c)))

/-- The attention weights the kernel ends with. -/
theorem out_alpha : W5 m false c A main_v9 = alphaOf (kH m c) (kU m c) := by
  have e : zP (W4 m false c A) = gA (W3 m c) := (W4_out m false c A).1.trans (arr5 (W3 m c) c)
  refine (last_of (W4 m false c A)).1.trans ?_
  rw [e]
  funext i
  obtain ⟨b, y, l, rfl⟩ : ∃ b y l, i = ix3 b y l := ⟨i 0, i 1, i 2, by
    funext a
    match a with
    | ⟨0, _⟩ => rfl
    | ⟨1, _⟩ => rfl
    | ⟨2, _⟩ => rfl⟩
  exact (turned_apply _ b y l).trans (gA_eq m c b y l)

/-- The loss the kernel ends with. -/
theorem out_loss : W5 m false c A main_v11 = lossOf (yhatOf (kH m c) (kU m c) (kW m c) (kB m c)) (kT m c) := by
  have e : zS (W4 m false c A) = gL (W3 m c) := (W4_out m false c A).2.2.trans (arr7 (W3 m c) c)
  refine (last_of (W4 m false c A)).2.trans ?_
  rw [e]
  funext i
  have h1 := mean_apply (gL (W3 m c)) i
  have h2 : (∑ t : Fin 63, gL (W3 m c) (ix3 t 0 0)) = ∑ t : Fin 63, pointLoss (W3 m c) t.val := Finset.sum_congr rfl fun t _ => rfl
  rw [h2, sum_losses, gY_eq, second_T] at h1
  exact h1

end Cert.Caml

end
-- ==== Proof.Math.lean ====
module

public import proofs.«01_k».proof.Proof.Spec

@[expose] public section

noncomputable section

namespace Cert.Caml

open Idealize.ShloMosaic

/-- The coercion of a finite sum of reals is the sum of the coercions. -/
theorem coe_sum {ι : Type*} (s : Finset ι) (g : ι → ℝ) : (((∑ i ∈ s, g i : ℝ)) : EReal) = ∑ i ∈ s, (g i : EReal) := by
  classical
  induction s using Finset.induction_on with
  | empty => simp
  | insert a s ha ih => rw [Finset.sum_insert ha, Finset.sum_insert ha, EReal.coe_add, ih]

/-- A value whose magnitude is below infinity is a real number. -/
theorem real_of_lt {a : EReal} (h : FloatOps.cmpf (F := Ideal) .olt (FloatOps.hostAbsf (F := Ideal) (φ := .f32) a)
    (FloatOps.ofBits (F := Ideal) .f32 0x7F800000#32) = 1#1) : ∃ r : ℝ, a = r := by
  have htop : Ideal.ofBits .f32 0x7F800000#32 = ⊤ := by simp [Ideal.ofBits, Ideal.ieee]
  have h' : Ideal.cmp .olt (max a (-a)) (Ideal.ofBits .f32 0x7F800000#32) = 1#1 := h
  unfold Ideal.cmp at h'
  rw [htop] at h'
  induction a using EReal.rec with
  | bot => simp at h'
  | top => simp at h'
  | coe r => exact ⟨r, rfl⟩

/-- The largest of real scores is one of them. -/
theorem topScore_real (r : Fin 2500 → ℝ) : ∃ t : ℝ, topScore (fun l => (r l : EReal)) = t := by
  obtain ⟨i, -, hi⟩ := Finset.exists_mem_eq_sup (Finset.univ : Finset (Fin 2500)) ⟨0, Finset.mem_univ _⟩ (fun l => (r l : EReal))
  exact ⟨r i, hi⟩

/-- The softmax of real scores is real. -/
theorem soft_real (r : Fin 2500 → ℝ) : ∃ a : Fin 2500 → ℝ, ∀ l, soft (fun l => (r l : EReal)) l = a l := by
  obtain ⟨t, ht⟩ := topScore_real r
  have hs : (∑ l, Ideal.exp ((r l : EReal) - topScore fun l => (r l : EReal))) = ((∑ l, Real.exp (r l - t) : ℝ) : EReal) := by
    rw [coe_sum, ht]; rfl
  have hpos : 0 < ∑ l, Real.exp (r l - t) := Finset.sum_pos (fun l _ => Real.exp_pos _) ⟨0, Finset.mem_univ _⟩
  refine ⟨fun l => Real.exp (r l - t) * (∑ l, Real.exp (r l - t))⁻¹, fun l => ?_⟩
  unfold soft
  rw [hs, ht, Ideal.div, if_neg (by exact_mod_cast hpos.ne')]
  rw [EReal.coe_mul, EReal.coe_inv]
  rfl

/-- Real features and a real label vector give real scores. -/
theorem scores_real (h : Fin 2500 → Fin 50 → ℝ) (u : Fin 50 → ℝ) :
    scores (fun l f => (h l f : EReal)) (fun f => (u f : EReal)) = fun l => ((∑ f, h l f * u f : ℝ) : EReal) := by
  funext l
  unfold scores
  rw [coe_sum]
  simp only [EReal.coe_mul]

/-- For real features and weights the sum over the positions may be taken before the weights are applied. -/
theorem label_eq (h : Fin 2500 → Fin 50 → EReal) (u w : Fin 50 → EReal) (c : EReal) (hh : ∀ l f, ∃ r : ℝ, h l f = r)
    (hu : ∀ f, ∃ r : ℝ, u f = r) (hw : ∀ f, ∃ r : ℝ, w f = r) :
    (∑ f, w f * ∑ l, soft (scores h u) l * h l f) + c = label h u w c := by
  choose h' hh using hh
  choose u' hu using hu
  choose w' hw using hw
  obtain rfl : h = fun l f => (h' l f : EReal) := by funext l f; exact hh l f
  obtain rfl : u = fun f => (u' f : EReal) := funext hu
  obtain rfl : w = fun f => (w' f : EReal) := funext hw
  unfold label
  rw [scores_real]
  obtain ⟨a, ha⟩ := soft_real fun l => ∑ f, h' l f * u' f
  simp only [ha, ← EReal.coe_mul, ← coe_sum]
  congr 2
  simp only [Finset.mul_sum]
  rw [Finset.sum_comm]
  exact Finset.sum_congr rfl fun l _ => Finset.sum_congr rfl fun f _ => by ring

end Cert.Caml

end
-- ==== Proof.RVal.lean ====
module

public import proofs.«01_k».proof.Proof.Math
public import proofs.«01_k».proof.Proof.Gen.ReferenceIdeal.Run
public import Idealize.ShloMosaic.Lib.Pointwise
public import Idealize.ShloMosaic.Lib.WordCmp
public import Idealize.ShloMosaic.Lib.KernelVsHost

@[expose] public section

noncomputable section

namespace Cert.Caml.Ref

open Cert.ReferenceIdeal Cert.ReferenceIdeal.Gen Cert.ReferenceIdeal.Value
open Idealize.ShloMosaic Idealize.ShloMosaic.TcCoe

/-- The gather of the reference at a token and a column: the table's row the index word names, read signed and clamped. -/
theorem gather_apply (T : FVec Ideal S50002x100 .f32) (idx : IVec S8x2500x1 32) (b : Fin 8) (l : Fin 2500) (d : Fin 100) :
    Host.gather gather_S50002x100_S8x2500x1_S8x2500x100_2_0_n_n_0_2_1100 T idx (ix3 b l d)
      = T (ix2 ⟨min (idx (ix3 b l 0)).toInt.toNat 50001, by omega⟩ d) := by
  unfold Host.gather
  refine congrArg T (funext fun a => Fin.ext ?_)
  let D := gather_S50002x100_S8x2500x1_S8x2500x100_2_0_n_n_0_2_1100
  show D.start (ix3 b l d) idx a + D.batchCoord (ix3 b l d) a + D.offCoord (ix3 b l d) a = _
  have hb : D.batchCoord (ix3 b l d) a = 0 := GatherDims.batchCoord_eq_zero _ _ _ List.not_mem_nil
  match a with
  | ⟨0, _⟩ =>
    have ho : D.offCoord (ix3 b l d) 0 = 0 :=
      GatherDims.offCoord_eq_zero _ _ _ (fun h => ((GatherDims.mem_sKept _ _).mp h).1 (List.mem_singleton.mpr rfl))
    have hs : D.start (ix3 b l d) idx 0 = min (idx (ix3 b l 0)).toInt.toNat 50001 := by
      unfold GatherDims.start
      rw [dif_pos (show (0 : Fin 2) ∈ D.startIndexMap from List.mem_singleton.mpr rfl)]
      have hsi : D.siIdx (ix3 b l d) ⟨List.idxOf (0 : Fin 2) D.startIndexMap,
          List.idxOf_lt_length_iff.2 (List.mem_singleton.mpr rfl)⟩ = ix3 b l 0 := by
        funext k; refine Fin.ext ?_
        match k with
        | ⟨0, _⟩ => rfl
        | ⟨1, _⟩ => rfl
        | ⟨2, _⟩ => rfl
      rw [hsi]
      rfl
    show D.start (ix3 b l d) idx 0 + D.batchCoord (ix3 b l d) 0 + D.offCoord (ix3 b l d) 0 = _
    rw [hs, ho, show D.batchCoord (ix3 b l d) 0 = 0 from hb]
    rfl
  | ⟨1, _⟩ =>
    show D.start (ix3 b l d) idx 1 + D.batchCoord (ix3 b l d) 1 + D.offCoord (ix3 b l d) 1 = d.val
    rw [show D.batchCoord (ix3 b l d) 1 = 0 from hb, show D.start (ix3 b l d) idx 1 = 0 from rfl,
      show D.offCoord (ix3 b l d) 1 = d.val from rfl]
    omega

variable (V : Valuation τ sig (Elt Ideal))

/-- The tokens. -/
abbrev tok : IVec S8x2500 32 := V main_arg0
/-- The targets. -/
abbrev tgt : FVec Ideal S8x8000 .f32 := V main_arg1
/-- The embedding table. -/
abbrev tab : FVec Ideal S50002x100 .f32 := V main_arg2
/-- The convolution's weights. -/
abbrev cw : FVec Ideal S50x100x9 .f32 := V main_arg3
/-- The convolution's bias. -/
abbrev cb : FVec Ideal S50 .f32 := V main_arg4
/-- The label vectors. -/
abbrev uw : FVec Ideal S8000x50 .f32 := V main_arg5
/-- The final weights. -/
abbrev fw : FVec Ideal S8000x50 .f32 := V main_arg6
/-- The final bias. -/
abbrev fb : FVec Ideal S8000 .f32 := V main_arg7
/-- The reference's padded rows. -/
abbrev rows : FVec Ideal S8x2508x100 .f32 := res_main_v7 V
/-- The reference's hidden features. -/
abbrev feats : FVec Ideal S8x2500x50 .f32 := res_main_v57 V
/-- The reference's scores. -/
abbrev scs : FVec Ideal S8x8000x2500 .f32 := res_main_v59 V

/-- The reference's hidden features at a document, a position and a feature. -/
theorem feats_apply (b : Fin 8) (l : Fin 2500) (f : Fin 50) :
    feats V (ix3 b l f) = hid (fun r d => rows V (ix3 b r d)) (fun k d => cw V (ix3 f d k))
      (cb V (ix1 f)) l := by
  pointwise [feats, rows, cw, cb, res_main_v57, hid]

/-- The reference's scores at a document, a label and a position. -/
theorem scs_apply (b : Fin 8) (y : Fin 8000) (l : Fin 2500) :
    scs V (ix3 b y l) = scores (fun l f => feats V (ix3 b l f)) (fun f => uw V (ix2 y f)) l := by
  pointwise [scs, uw, res_main_v59, scores]

/-- The reference's attention weights. -/
abbrev weights : FVec Ideal S8x8000x2500 .f32 :=
  Host.divf (res_main_v66 V) (broadcastInDim S8x8000x2500 ![0, 1, 2] bcast_S8x8000x1_S8x8000x2500_0_1_2
    (broadcastInDim S8x8000x1 ![0, 1] bcast_S8x8000_S8x8000x1_0_1
      (Host.reduceAdd (res_main_v66 V) (constant S_ .f32 0x00000000#32) reducesTo_S8x8000x2500_S8x8000_d2 h_S_)))

/-- The word of negative infinity. -/
theorem ofBits_negInf : Ideal.ofBits .f32 0xFF800000#32 = ⊥ := by simp [Ideal.ofBits, Ideal.ieee]

/-- The largest of an array's entries along the positions. -/
theorem top_of (X : FVec Ideal S8x8000x2500 .f32) (b : Fin 8) (y : Fin 8000) :
    Host.reduce FloatOps.maximumf X (constant S_ .f32 0xFF800000#32) reducesTo_S8x8000x2500_S8x8000_d2 h_S_ (ix2 b y)
      = topScore fun l => X (ix3 b y l) := by
  have h : S8x8000x2500.Reduces [2] S8x8000 := by decide
  refine (Host.reduce_eq_fold_single FloatOps.maximumf X _ _ h _ _).trans ?_
  have hl : ∀ l : Fin 2500, h.lift (ix2 b y) l = ix3 b y l := fun l => funext fun a => Fin.ext (by
    match a with
    | ⟨0, _⟩ => rfl
    | ⟨1, _⟩ => rfl
    | ⟨2, _⟩ => rfl)
  unfold topScore
  rw [show (X ∘ h.lift (ix2 b y)) = fun l : Fin 2500 => X (ix3 b y l) from funext fun l => congrArg X (hl l),
    show (constant S_ .f32 0xFF800000#32 : FVec Ideal S_ .f32) (Shape.Idx.first h_S_) = (⊥ : EReal) from ofBits_negInf]
  rfl

/-- Exponentials of scores shifted by the larger of a constant and a maximum. -/
theorem exps_gen (X : FVec Ideal S8x8000x2500 .f32) (M : FVec Ideal S8x8000 .f32) (b : Fin 8) (y : Fin 8000) (l : Fin 2500) :
    Host.exp (subf X (broadcastInDim S8x8000x2500 ![0, 1, 2] bcast_S8x8000x1_S8x8000x2500_0_1_2
      (broadcastInDim S8x8000x1 ![0, 1] bcast_S8x8000_S8x8000x1_0_1
        (maximumf (broadcastInDim S8x8000 ![] bcast_S_S8x8000 (constant S_ .f32 0xFF800000#32)) M)))) (ix3 b y l)
      = Ideal.exp (X (ix3 b y l) - max (Ideal.ofBits .f32 0xFF800000#32) (M (ix2 b y))) := by
  pointwise []

/-- Exponentials of scores shifted by the largest. -/
theorem exps_of (X : FVec Ideal S8x8000x2500 .f32) (b : Fin 8) (y : Fin 8000) (l : Fin 2500) :
    Host.exp (subf X (broadcastInDim S8x8000x2500 ![0, 1, 2] bcast_S8x8000x1_S8x8000x2500_0_1_2
      (broadcastInDim S8x8000x1 ![0, 1] bcast_S8x8000_S8x8000x1_0_1 (maximumf (broadcastInDim S8x8000 ![] bcast_S_S8x8000 (constant S_ .f32 0xFF800000#32))
        (Host.reduce FloatOps.maximumf X (constant S_ .f32 0xFF800000#32) reducesTo_S8x8000x2500_S8x8000_d2 h_S_))))) (ix3 b y l)
      = Ideal.exp (X (ix3 b y l) - topScore fun l => X (ix3 b y l)) := by
  refine (exps_gen X _ b y l).trans (congrArg (fun t => Ideal.exp (X (ix3 b y l) - t)) ?_)
  exact (congrArg (fun t => max (Ideal.ofBits .f32 0xFF800000#32) t) (top_of X b y)).trans
    ((congrArg (fun z => max z (topScore fun l => X (ix3 b y l))) ofBits_negInf).trans (max_eq_right bot_le))

/-- The reference's shifted exponentials. -/
theorem exps_apply (b : Fin 8) (y : Fin 8000) (l : Fin 2500) :
    (res_main_v66 V : FVec Ideal S8x8000x2500 .f32) (ix3 b y l)
      = Ideal.exp (scs V (ix3 b y l) - topScore fun l => scs V (ix3 b y l)) := exps_of (scs V) b y l

/-- Exponentials divided by their sum. -/
theorem weights_of (E : FVec Ideal S8x8000x2500 .f32) (b : Fin 8) (y : Fin 8000) (l : Fin 2500) :
    Host.divf E (broadcastInDim S8x8000x2500 ![0, 1, 2] bcast_S8x8000x1_S8x8000x2500_0_1_2
      (broadcastInDim S8x8000x1 ![0, 1] bcast_S8x8000_S8x8000x1_0_1
        (Host.reduceAdd E (constant S_ .f32 0x00000000#32) reducesTo_S8x8000x2500_S8x8000_d2 h_S_))) (ix3 b y l)
      = Ideal.div (E (ix3 b y l)) (∑ l, E (ix3 b y l)) := by
  pointwise []

/-- The reference's attention weights at a document, a label and a position. -/
theorem weights_apply (b : Fin 8) (y : Fin 8000) (l : Fin 2500) :
    weights V (ix3 b y l) = soft (fun l => scs V (ix3 b y l)) l := by
  refine (weights_of (res_main_v66 V) b y l).trans ?_
  unfold soft
  simp only [exps_apply]

/-- Outputs from attention weights and features. -/
theorem outs_of (A : FVec Ideal S8x8000x2500 .f32) (H : FVec Ideal S8x2500x50 .f32) (W : FVec Ideal S8000x50 .f32) (B : FVec Ideal S8000 .f32)
    (b : Fin 8) (y : Fin 8000) :
    addf (Host.reduceAdd (mulf (broadcastInDim S8x8000x50 ![0, 1, 2] bcast_S1x8000x50_S8x8000x50_0_1_2
        (broadcastInDim S1x8000x50 ![1, 2] bcast_S8000x50_S1x8000x50_1_2 W))
        (Host.dotGeneral dot_S8x8000x2500_S8x2500x50_S8x8000x50_2_1_1_2_0_0 none A H)) (constant S_ .f32 0x00000000#32) reducesTo_S8x8000x50_S8x8000_d2 h_S_)
      (broadcastInDim S8x8000 ![0, 1] bcast_S1x8000_S8x8000_0_1 (broadcastInDim S1x8000 ![1] bcast_S8000_S1x8000_1 B)) (ix2 b y)
      = (∑ f, W (ix2 y f) * ∑ l, A (ix3 b y l) * H (ix3 b l f)) + B (ix1 y) := by
  pointwise []

/-- The reference's outputs at a document and a label. -/
theorem outs_apply (b : Fin 8) (y : Fin 8000) :
    (res_main_v78 V : FVec Ideal S8x8000 .f32) (ix2 b y)
      = (∑ f, fw V (ix2 y f) * ∑ l, weights V (ix3 b y l) * feats V (ix3 b l f)) + fb V (ix1 y) :=
  outs_of (weights V) (feats V) (fw V) (fb V) b y

/-- The reference's loss. -/
theorem loss_apply (z : FVec Ideal S8x8000 .f32) (t : FVec Ideal S8x8000 .f32) (i : S_.Idx) :
    Host.divf (Host.reduceAdd (addf (subf (maximumf z (broadcastInDim S8x8000 ![] bcast_S_S8x8000 (constant S_ .f32 0x00000000#32)))
        (mulf z t)) (Host.log1p (Host.exp (Host.negf (Host.absf z))))) (constant S_ .f32 0x00000000#32) reducesTo_S8x8000_S_d0_1 h_S_)
      (constant S_ .f32 0x477A0000#32) i
      = Ideal.div (∑ b : Fin 8, ∑ y : Fin 8000, bce (z (ix2 b y)) (t (ix2 b y))) (Ideal.ofBits .f32 0x477A0000#32) := by
  pointwise [bce]
  rfl

/-- Rows gathered and padded. -/
theorem rows_of (G : FVec Ideal S8x2500x100 .f32) (b : Fin 8) (r : Fin 2508) (d : Fin 100) :
    pad S8x2508x100 ![0, 4, 0] ![0, 4, 0] ![0, 0, 0] G (sitofp .f32 (constantI S_ 32 0#32)) pads_S8x2500x100_S8x2508x100_000_440_000 h_S_ (ix3 b r d)
      = if h : 4 ≤ r.val ∧ r.val - 4 < 2500 then G (ix3 b ⟨r.val - 4, h.2⟩ d) else 0 := by
  pointwise []
  split
  · rfl
  · exact sitofp_zero

/-- The table's row of a token that is in the table: no index is shifted or clamped. -/
theorem look_of (T : FVec Ideal S50002x100 .f32) (X : IVec S8x2500 32) (hX : ∀ i, (X i).toNat < 50002) (b : Fin 8) (l : Fin 2500) (d : Fin 100) :
    Host.gather gather_S50002x100_S8x2500x1_S8x2500x100_2_0_n_n_0_2_1100 T (broadcastInDim S8x2500x1 ![0, 1] bcast_S8x2500_S8x2500x1_0_1
      (select (cmpi .slt X (broadcastInDim S8x2500 ![] bcast_S_S8x2500 (constantI S_ 32 0#32)))
        (addi X (broadcastInDim S8x2500 ![] bcast_S_S8x2500 (constantI S_ 32 50002#32))) X)) (ix3 b l d)
      = T (ix2 ⟨(X (ix2 b l)).toNat, hX _⟩ d) := by
  have hx := hX (ix2 b l)
  have hi : (X (ix2 b l)).toInt = ((X (ix2 b l)).toNat : ℤ) := by
    rw [BitVec.toInt_eq_toNat_cond, if_pos (by omega)]
  have hs : (broadcastInDim S8x2500x1 ![0, 1] bcast_S8x2500_S8x2500x1_0_1
      (select (cmpi .slt X (broadcastInDim S8x2500 ![] bcast_S_S8x2500 (constantI S_ 32 0#32)))
        (addi X (broadcastInDim S8x2500 ![] bcast_S_S8x2500 (constantI S_ 32 50002#32))) X) : IVec S8x2500x1 32) (ix3 b l 0) = X (ix2 b l) := by
    pointwise []
    have hc : IntOp.cmpi .slt (X (ix2 b l)) 0#32 = 0#1 := by
      rw [WordCmp.cmpi_slt_eq, hi, show (0#32).toInt = 0 by decide, decide_eq_false (by omega)]; rfl
    simp [hc, Scalar.select]
  rw [gather_apply]
  simp only [hs, hi]
  refine congrArg T (congrArg (fun i => ix2 i d) (Fin.ext ?_))
  show min ((X (ix2 b l)).toNat : ℤ).toNat 50001 = (X (ix2 b l)).toNat
  omega

/-- The reference's padded rows, when the tokens are in the table. -/
theorem rows_apply (hx : ∀ i, (tok V i).toNat < 50002) (b : Fin 8) (r : Fin 2508) (d : Fin 100) :
    rows V (ix3 b r d) = embed (tok V) (tab V) b r d := by
  refine (rows_of _ b r d).trans ?_
  unfold embed
  split
  · refine (look_of (tab V) (tok V) hx b _ d).trans (congrArg (tab V) (congrArg (fun i => ix2 i d) (Fin.ext ?_)))
    exact (min_eq_left (by have := hx (ix2 b ⟨r.val - 4, by omega⟩); omega)).symm
  · rfl

/-- The reference's hidden features of the arguments. -/
theorem feats_eq (hx : ∀ i, (tok V i).toNat < 50002) (b : Fin 8) (l : Fin 2500) (f : Fin 50) :
    feats V (ix3 b l f) = hiddenOf (tok V) (tab V) (cw V) (cb V) b l f := by
  rw [feats_apply]
  unfold hiddenOf
  rw [show (fun r d => rows V (ix3 b r d)) = embed (tok V) (tab V) b from funext fun r => funext fun d => rows_apply V hx b r d]

/-- The reference's attention weights are those of its hidden features. -/
theorem weights_eq (hx : ∀ i, (tok V i).toNat < 50002) : weights V = alphaOf (hiddenOf (tok V) (tab V) (cw V) (cb V)) (uw V) := by
  funext i
  obtain ⟨b, y, l, rfl⟩ : ∃ b y l, i = ix3 b y l := ⟨i 0, i 1, i 2, by
    funext a
    match a with
    | ⟨0, _⟩ => rfl
    | ⟨1, _⟩ => rfl
    | ⟨2, _⟩ => rfl⟩
  refine (weights_apply V b y l).trans ?_
  simp only [scs_apply, feats_eq V hx]
  rfl

/-- The reference's outputs are those of its hidden features, the label vectors and final weights being finite. -/
theorem outs_eq (hx : ∀ i, (tok V i).toNat < 50002) (hu : ∀ i, ∃ r : ℝ, uw V i = r) (hw : ∀ i, ∃ r : ℝ, fw V i = r) :
    (res_main_v78 V : FVec Ideal S8x8000 .f32) = yhatOf (hiddenOf (tok V) (tab V) (cw V) (cb V)) (uw V) (fw V) (fb V) := by
  funext i
  obtain ⟨b, y, rfl⟩ : ∃ b y, i = ix2 b y := ⟨i 0, i 1, by
    funext a
    match a with
    | ⟨0, _⟩ => rfl
    | ⟨1, _⟩ => rfl⟩
  refine (outs_apply V b y).trans ?_
  simp only [weights_apply, scs_apply, feats_eq V hx]
  exact label_eq _ _ _ _ (hiddenOf_real _ _ _ _ b) (fun f => hu _) (fun f => hw _)

/-- The reference's loss is that of its outputs. -/
theorem loss_eq (z t : FVec Ideal S8x8000 .f32) :
    Host.divf (Host.reduceAdd (addf (subf (maximumf z (broadcastInDim S8x8000 ![] bcast_S_S8x8000 (constant S_ .f32 0x00000000#32)))
        (mulf z t)) (Host.log1p (Host.exp (Host.negf (Host.absf z))))) (constant S_ .f32 0x00000000#32) reducesTo_S8x8000_S_d0_1 h_S_)
      (constant S_ .f32 0x477A0000#32) = lossOf z t := funext fun i => loss_apply z t i

end Cert.Caml.Ref

end
-- ==== Proof.Algebraic.lean ====
module

public import proofs.«01_k».proof.Defs
public import proofs.«01_k».proof.Proof.Pre
public import proofs.«01_k».proof.Proof.Values
public import proofs.«01_k».proof.Proof.RVal
public import proofs.«01_k».proof.Proof.Frames

@[expose] public section

noncomputable section

namespace Cert.Caml

open Cert.KernelIdeal Cert.KernelIdeal.Gen
open Idealize.ShloMosaic Idealize.ShloMosaic.TcCoe Idealize.SL.Sem

attribute [local instance] Cert.ReferenceIdeal.Gen.facts tokFacts finFacts

/-- Every fair run of the kernel's program from tokens in the table ends with its three results at the values of its
    arguments and the arguments unchanged. -/
theorem kernel_values (m : (ℓ : Loc nD τ sig) → Buf (Elt Ideal) ℓ) (ρ : Dev nD → PrngReg) (hx : ∀ c i, (kX m c i).toNat < 50002) :
    θ_run (defs (F := Ideal)) (onTc (τ := τ) (main (F := Ideal))) ⟨m, fun _ => 0, ρ⟩ (fun r => ∀ c : Dev nD,
      r.2.mem ((c : Thread nD τ).loc main_v8_1) = yhatOf (kH m c) (kU m c) (kW m c) (kB m c)
      ∧ r.2.mem ((c : Thread nD τ).loc main_v11) = lossOf (yhatOf (kH m c) (kU m c) (kW m c) (kB m c)) (kT m c)
      ∧ r.2.mem ((c : Thread nD τ).loc main_v9) = alphaOf (kH m c) (kU m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) := by
  refine (θ_run (defs (F := Ideal)) _ _).mono (fun r hr c => ?_)
    (run m ρ false (fun c => V1_tokens m c (hx c)) fun c => attn_obligation (W3 m c) c)
  obtain ⟨A, hA⟩ := hr.1 c
  have key (r' : Ref sig .tc) (hs : r'.isScoped = false) (h0 : r' ∉ hostOps0_W) (h1 : r' ∉ hostOps1_W) (h2 : r' ∉ hostOps2_W)
      (h3 : r' ≠ main_v4) (h4 : r' ≠ main_v8_0) (h5 : r' ≠ main_v8_1) (h6 : r' ≠ main_v8_2) :
      r.2.mem ((c : Thread nD τ).loc r') = m ((c : Thread nD τ).loc r') :=
    (hA _ (mem_uc r' hs)).trans (W5_arg m false c A r' h0 h1 h2 h3 h4 h5 h6)
  exact ⟨(hA _ (mem_uc main_v8_1 rfl)).trans (out_yhat m c A), (hA _ (mem_uc main_v11 rfl)).trans (out_loss m c A),
    (hA _ (mem_uc main_v9 rfl)).trans (out_alpha m c A),
    key main_arg0 rfl (by decide) (by decide) (by decide) (by decide) (by decide) (by decide) (by decide),
    key main_arg1 rfl (by decide) (by decide) (by decide) (by decide) (by decide) (by decide) (by decide),
    key main_arg2 rfl (by decide) (by decide) (by decide) (by decide) (by decide) (by decide) (by decide),
    key main_arg3 rfl (by decide) (by decide) (by decide) (by decide) (by decide) (by decide) (by decide),
    key main_arg4 rfl (by decide) (by decide) (by decide) (by decide) (by decide) (by decide) (by decide),
    key main_arg5 rfl (by decide) (by decide) (by decide) (by decide) (by decide) (by decide) (by decide),
    key main_arg6 rfl (by decide) (by decide) (by decide) (by decide) (by decide) (by decide) (by decide),
    key main_arg7 rfl (by decide) (by decide) (by decide) (by decide) (by decide) (by decide) (by decide)⟩

/-- The reference's three results at arguments given apart. -/
theorem reference_values (V : Valuation Cert.ReferenceIdeal.τ Cert.ReferenceIdeal.sig (Elt Ideal)) {X : IVec S8x2500 32} {T : FVec Ideal S8x8000 .f32}
    {E : FVec Ideal S50002x100 .f32} {C : FVec Ideal S50x100x9 .f32} {c : FVec Ideal S50 .f32} {U W : FVec Ideal S8000x50 .f32} {B : FVec Ideal S8000 .f32}
    (h0 : Ref.tok V = X) (h1 : Ref.tgt V = T) (h2 : Ref.tab V = E) (h3 : Ref.cw V = C) (h4 : Ref.cb V = c) (h5 : Ref.uw V = U) (h6 : Ref.fw V = W)
    (h7 : Ref.fb V = B) (hx : ∀ i, (X i).toNat < 50002) (hu : ∀ i, ∃ r : ℝ, U i = r) (hw : ∀ i, ∃ r : ℝ, W i = r) :
    (Cert.ReferenceIdeal.Value.res_main_v78 V : FVec Ideal S8x8000 .f32) = yhatOf (hiddenOf X E C c) U W B
      ∧ Ref.weights V = alphaOf (hiddenOf X E C c) U := by
  subst h0 h1 h2 h3 h4 h5 h6 h7
  exact ⟨Ref.outs_eq V hx hu hw, Ref.weights_eq V hx⟩

/-- The kernel and the reference, run with exact arithmetic from the same arguments, end with the same three results. -/
theorem algebraic : Cert.algebraic_KernelIdeal_ReferenceIdeal_pre_tokens_and_finite_weights := by
  intro m g m' g' hp ha
  have hx : ∀ c i, (kX m c i).toNat < 50002 := fun c i => tokens_of_fin _ _ _ _ _ _ _ _ (hp c) i
  have hu : ∀ c i, ∃ r : ℝ, kU m c i = r := fun c i => real_of_lt (labels_of_fin _ _ _ _ _ _ _ _ (hp c) i)
  have hw : ∀ c i, ∃ r : ℝ, kW m c i = r := fun c i => real_of_lt (weights_of_fin _ _ _ _ _ _ _ _ (hp c) i)
  refine ⟨fun c => yhatOf (kH m c) (kU m c) (kW m c) (kB m c), fun c => lossOf (yhatOf (kH m c) (kU m c) (kW m c) (kB m c)) (kT m c),
    fun c => alphaOf (kH m c) (kU m c), kernel_values m g hx, ?_⟩
  refine (θ_run _ _ _).mono (fun r hr c => ?_) (Cert.ReferenceIdeal.Value.run (F := Ideal) m' g')
  obtain ⟨r0, r1, r2, rs⟩ := hr c
  obtain ⟨a0, a1, a2, a3, a4, a5, a6, a7⟩ := ha c
  obtain ⟨e0, e2⟩ := reference_values (StableHlo.launchContents m' c) a0 a1 a2 a3 a4 a5 a6 a7 (hx c) (hu c) (hw c)
  have e1 := Ref.loss_eq (Cert.ReferenceIdeal.Value.res_main_v78 (StableHlo.launchContents m' c)) (Ref.tgt (StableHlo.launchContents m' c))
  rw [e0, show Ref.tgt (StableHlo.launchContents m' c) = kT m c from a1] at e1
  refine ⟨r0.trans e0, r1.trans ?_, r2.trans e2, rs⟩
  rw [e0, show (StableHlo.launchContents m' c) (Proc.devRef .tc Cert.ReferenceIdeal.main_arg1) = kT m c from a1]
  exact e1

end Cert.Caml

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Pre
public import proofs.«01_k».proof.Proof.Frames
public import proofs.«01_k».proof.Proof.RefFrame
public import proofs.«01_k».proof.Proof.Algebraic
public import Idealize.ShloMosaic.Adequacy
public import Idealize.ShloMosaic.Init

@[expose] public section

noncomputable section

namespace Cert.Proof

open Idealize.ShloMosaic Idealize.SL.Sem

/-- The kernel and the reference run to their ends and leave their arguments unchanged and every semaphore at zero, the
    kernel read with exact arithmetic is the printed kernel, and there the kernel and the reference end with the same
    results. -/
theorem claim : Cert.Claim := ⟨Cert.Kernel.Gen.facts, Cert.KernelIdeal.Gen.facts, Cert.ReferenceIdeal.Gen.facts, Cert.Caml.tokFacts, Cert.Caml.finFacts,
  fun m g h => Cert.Caml.kernel_frame m g fun c i => Cert.Caml.tokens_of_pre _ _ _ _ _ _ _ _ (h c) i,
  fun m g h => Cert.Caml.frame m g fun c i => Cert.Caml.tokens_of_pre _ _ _ _ _ _ _ _ (h c) i,
  fun m g h => Cert.Caml.frame m g fun c i => Cert.Caml.tokens_of_fin _ _ _ _ _ _ _ _ (h c) i,
  fun m g _ => Cert.Caml.reference_frame m g,
  fun m g _ => Cert.Caml.reference_frame m g,
  trivial,
  Cert.Caml.algebraic⟩

end Cert.Proof

end
